-- ==== Defs.lean ====
def Pre_Kernel (m : (ℓ : Loc Cert.Kernel.nD Cert.Kernel.τ Cert.Kernel.sig) → Buf (Elt Bits) ℓ) : Prop :=
  True

def Pre_Kernel_finite_no_tie [hPre_finite_no_tie : Cert.Pre_finite_no_tie.Facts] (m : (ℓ : Loc Cert.Kernel.nD Cert.Kernel.τ Cert.Kernel.sig) → Buf (Elt Bits) ℓ) : Prop :=
  ∀ c : Dev Cert.Kernel.nD,
    (Cert.Pre_finite_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_finite_no_tie [hKernel : Cert.Kernel.Facts] [hPre_finite_no_tie : Cert.Pre_finite_no_tie.Facts] : Prop :=
  ∀ (m : (ℓ : Loc Cert.Kernel.nD Cert.Kernel.τ Cert.Kernel.sig) → Buf (Elt Bits) ℓ) (g : Dev Cert.Kernel.nD → PrngReg), Pre_Kernel_finite_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_Kernel_pre_finite_no_tie (hKernel := hKernel) (hPre_finite_no_tie := hPre_finite_no_tie)
    ∧ quiescent_KernelIdeal (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal (hKernelIdeal := hKernelIdeal) (hReferenceIdeal := hReferenceIdeal) (hPre_finite_no_tie := hPre_finite_no_tie)
-- ==== Pre_finite_no_tie.lean ====
abbrev S16x512x64 : Shape := ⟨3, ![16, 512, 64]⟩
abbrev S8192x64 : Shape := ⟨2, ![8192, 64]⟩
abbrev S_ : Shape := ⟨0, ![]⟩
abbrev S16x512 : Shape := ⟨2, ![16, 512]⟩
abbrev S16x512x1 : Shape := ⟨3, ![16, 512, 1]⟩
abbrev S16x512x8192 : Shape := ⟨3, ![16, 512, 8192]⟩
abbrev S8192 : Shape := ⟨1, ![8192]⟩
abbrev S1x1x8192 : Shape := ⟨3, ![1, 1, 8192]⟩
abbrev S1 : Shape := ⟨1, ![1]⟩
abbrev S1x1x1 : Shape := ⟨3, ![1, 1, 1]⟩

class Facts : Prop where
  reducesTo_S16x512x64_S16x512_d2 : S16x512x64.ReducesTo [2] S16x512
  h_S_ : 0 < S_.numel
  bcast_S16x512_S16x512x1_0_1 : S16x512.BroadcastsInDim S16x512x1 (![0, 1] : Fin 2 → Fin S16x512x1.rank)
  bcast_S_S16x512x8192 : S_.BroadcastsInDim S16x512x8192 (![] : Fin 0 → Fin S16x512x8192.rank)
  bcast_S16x512x1_S16x512x8192_0_1_2 : S16x512x1.BroadcastsInDim S16x512x8192 (![0, 1, 2] : Fin 3 → Fin S16x512x8192.rank)
  reducesTo_S8192x64_S8192_d1 : S8192x64.ReducesTo [1] S8192
  bcast_S8192_S1x1x8192_2 : S8192.BroadcastsInDim S1x1x8192 (![2] : Fin 1 → Fin S1x1x8192.rank)
  bcast_S1x1x8192_S16x512x8192_0_1_2 : S1x1x8192.BroadcastsInDim S16x512x8192 (![0, 1, 2] : Fin 3 → Fin S16x512x8192.rank)
  reducesTo_S16x512x8192_S16x512_d2 : S16x512x8192.ReducesTo [2] S16x512
  natLt_1_32 : 1 < 32
  bcast_S_S16x512 : S_.BroadcastsInDim S16x512 (![] : Fin 0 → Fin S16x512.rank)
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  bcast_S16x512_S16x512x64_0_1 : S16x512.BroadcastsInDim S16x512x64 (![0, 1] : Fin 2 → Fin S16x512x64.rank)
  bcast_S_S16x512x64 : S_.BroadcastsInDim S16x512x64 (![] : Fin 0 → Fin S16x512x64.rank)
  reducesTo_S16x512x64_S_d0_1_2 : S16x512x64.ReducesTo [0, 1, 2] S_
  bcast_S_S8192x64 : S_.BroadcastsInDim S8192x64 (![] : Fin 0 → Fin S8192x64.rank)
  reducesTo_S8192x64_S_d0_1 : S8192x64.ReducesTo [0, 1] S_
  reducesTo_S16x512_S_d0_1 : S16x512.ReducesTo [0, 1] S_
  dot_S16x512x64_S8192x64_S16x512x8192_2_1_01_0_n_n_wf : DotDims.WF S16x512x64 S8192x64 S16x512x8192 [2] [1] [0, 1] [0] [] []
  gather_S8192x64_S16x512x1_S16x512x64_2_0_n_n_0_2_164_wf : GatherDims.WF S8192x64 S16x512x1 S16x512x64 [2] [0] [] [0] [] 2 ![1, 64]

variable [Facts]

variable {F : FTy → Type} [FloatOps F]
def dot_S16x512x64_S8192x64_S16x512x8192_2_1_01_0_n_n : DotDims S16x512x64 S8192x64 S16x512x8192 where
  lhsContracting := [2]
  rhsContracting := [1]
  lhsNonContracting := [0, 1]
  rhsNonContracting := [0]
  lhsBatch := []
  rhsBatch := []
  wf := dot_S16x512x64_S8192x64_S16x512x8192_2_1_01_0_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192x64_S16x512x1_S16x512x64_2_0_n_n_0_2_164 : GatherDims S8192x64 S16x512x1 S16x512x64 where
  offsetDims := [2]
  collapsedSliceDims := [0]
  operandBatchingDims := []
  startIndicesBatchingDims := []
  startIndexMap := [0]
  indexVectorDim := 2
  sliceSizes := ![1, 64]
  wf := gather_S8192x64_S16x512x1_S16x512x64_2_0_n_n_0_2_164_wf

def fn_argmin {F : FTy → Type} [FloatOps F] (arg0 : FVec F S16x512x8192 .f32) : IVec S16x512 32 :=
  let v0 : IVec S16x512x8192 32 := iotaInDim S16x512x8192 32 2
  let cst : FVec F S_ .f32 := constant S_ .f32 0x7F800000#32
  let c : IVec S_ 32 := constantI S_ 32 0#32
  let v1_0 : FVec F S16x512 .f32 := (fun x y u v j => (Host.argReduce reducer_argmin_f32_i32 x y u v reducesTo_S16x512x8192_S16x512_d2 h_S_ j).1) arg0 v0 cst c
  let v1_1 : IVec S16x512 32 := (fun x y u v j => (Host.argReduce reducer_argmin_f32_i32 x y u v reducesTo_S16x512x8192_S16x512_d2 h_S_ j).2) arg0 v0 cst c
  v1_1

def fn_where {F : FTy → Type} [FloatOps F] (arg0 : IVec S16x512 1) (arg1 : IVec S16x512 32) (arg2 : IVec S16x512 32) : IVec S16x512 32 :=
  let v0 : IVec S16x512 32 := select arg0 arg1 arg2
  v0

def fn_take {F : FTy → Type} [FloatOps F] (arg0 : FVec F S8192x64 .f32) (arg1 : IVec S16x512 32) : FVec F S16x512x64 .f32 :=
  let c : IVec S_ 32 := constantI S_ 32 0#32
  let v0 : IVec S16x512 32 := broadcastInDim S16x512 ![] bcast_S_S16x512 c
  let v1 : IVec S16x512 1 := cmpi .slt arg1 v0
  let c_0 : IVec S_ 32 := constantI S_ 32 8192#32
  let v2 : IVec S16x512 32 := broadcastInDim S16x512 ![] bcast_S_S16x512 c_0
  let v3 : IVec S16x512 32 := addi arg1 v2
  let v4 : IVec S16x512 32 := fn_where (F := F) v1 v3 arg1
  let v5 : IVec S16x512x1 32 := broadcastInDim S16x512x1 ![0, 1] bcast_S16x512_S16x512x1_0_1 v4
  let c_1 : IVec S1 32 := constantI S1 32 8191#32
  let c_2 : IVec S_ 32 := constantI S_ 32 0#32
  let v6 : IVec S16x512x1 32 := broadcastInDim S16x512x1 ![] bcast_S_S16x512x1 c_2
  let v7 : IVec S16x512x1 1 := cmpi .sge v5 v6
  let v8 : IVec S1x1x1 32 := broadcastInDim S1x1x1 ![2] bcast_S1_S1x1x1_2 c_1
  let v9 : IVec S16x512x1 32 := broadcastInDim S16x512x1 ![0, 1, 2] bcast_S1x1x1_S16x512x1_0_1_2 v8
  let v10 : IVec S16x512x1 1 := cmpi .sle v5 v9
  let v11 : IVec S16x512x1 1 := andi v7 v10
  let c_3 : IVec S_ 1 := constantI S_ 1 1#1
  let v12 : IVec S16x512 1 := (fun x v => Host.reduce IntOp.andi x v reducesTo_S16x512x1_S16x512_d2 h_S_) v11 c_3
  let v13 : FVec F S16x512x64 .f32 := (fun x i => Host.gather gather_S8192x64_S16x512x1_S16x512x64_2_0_n_n_0_2_164 x i) arg0 v5
  let v14 : IVec S16x512x64 1 := broadcastInDim S16x512x64 ![0, 1] bcast_S16x512_S16x512x64_0_1 v12
  let cst : FVec F S_ .f32 := constant S_ .f32 0x7FC00000#32
  let v15 : FVec F S16x512x64 .f32 := broadcastInDim S16x512x64 ![] bcast_S_S16x512x64 cst
  let v16 : FVec F S16x512x64 .f32 := select v14 v13 v15
  v16

def fn_part3 {F : FTy → Type} [FloatOps F] (main_v20 : IVec S16x512 1) (main_v44 : IVec S16x512 1) (main_v54 : IVec S_ 1) (main_c_14 : IVec S_ 1) : IVec S_ 1 :=
  let main_v55 : IVec S_ 1 := (fun x v => Host.reduce IntOp.andi x v reducesTo_S16x512_S_d0_1 h_S_) main_v20 main_c_14
  let main_v56 : IVec S_ 1 := andi main_v54 main_v55
  let main_c_15 : IVec S_ 1 := constantI S_ 1 1#1
  let main_v57 : IVec S_ 1 := (fun x v => Host.reduce IntOp.andi x v reducesTo_S16x512_S_d0_1 h_S_) main_v44 main_c_15
  let main_v58 : IVec S_ 1 := andi main_v56 main_v57
  main_v58

def fn_part2 {F : FTy → Type} [FloatOps F] (main_arg0 : FVec F S16x512x64 .f32) (main_arg1 : FVec F S8192x64 .f32) (main_v20 : IVec S16x512 1) (main_v36 : FVec F S16x512x8192 .f32) (main_v37 : FVec F S16x512 .f32) : IVec S_ 1 :=
  let main_v38 : FVec F S16x512x1 .f32 := broadcastInDim S16x512x1 ![0, 1] bcast_S16x512_S16x512x1_0_1 main_v37
  let main_v39 : FVec F S16x512x8192 .f32 := broadcastInDim S16x512x8192 ![0, 1, 2] bcast_S16x512x1_S16x512x8192_0_1_2 main_v38
  let main_v40 : IVec S16x512x8192 1 := cmpf .oeq main_v36 main_v39
  let main_v41 : IVec S16x512x8192 32 := (extui 32 · natLt_1_32) main_v40
  let main_c_8 : IVec S_ 32 := constantI S_ 32 0#32
  let main_v42 : IVec S16x512 32 := (fun x v => Host.reduce IntOp.addi x v reducesTo_S16x512x8192_S16x512_d2 h_S_) main_v41 main_c_8
  let main_c_9 : IVec S_ 32 := constantI S_ 32 1#32
  let main_v43 : IVec S16x512 32 := broadcastInDim S16x512 ![] bcast_S_S16x512 main_c_9
  let main_v44 : IVec S16x512 1 := cmpi .eq main_v42 main_v43
  let main_v45 : IVec S16x512 32 := fn_argmin (F := F) main_v36
  let main_v46 : FVec F S16x512x64 .f32 := Host.absf main_arg0
  let main_cst_10 : FVec F S_ .f32 := constant S_ .f32 0x7F800000#32
  let main_v47 : FVec F S16x512x64 .f32 := broadcastInDim S16x512x64 ![] bcast_S_S16x512x64 main_cst_10
  let main_v48 : IVec S16x512x64 1 := cmpf .olt main_v46 main_v47
  let main_c_11 : IVec S_ 1 := constantI S_ 1 1#1
  let main_v49 : IVec S_ 1 := (fun x v => Host.reduce IntOp.andi x v reducesTo_S16x512x64_S_d0_1_2 h_S_) main_v48 main_c_11
  let main_v50 : FVec F S8192x64 .f32 := Host.absf main_arg1
  let main_cst_12 : FVec F S_ .f32 := constant S_ .f32 0x7F800000#32
  let main_v51 : FVec F S8192x64 .f32 := broadcastInDim S8192x64 ![] bcast_S_S8192x64 main_cst_12
  let main_v52 : IVec S8192x64 1 := cmpf .olt main_v50 main_v51
  let main_c_13 : IVec S_ 1 := constantI S_ 1 1#1
  let main_v53 : IVec S_ 1 := (fun x v => Host.reduce IntOp.andi x v reducesTo_S8192x64_S_d0_1 h_S_) main_v52 main_c_13
  let main_v54 : IVec S_ 1 := andi main_v49 main_v53
  let main_c_14 : IVec S_ 1 := constantI S_ 1 1#1
  fn_part3 (F := F) main_v20 main_v44 main_v54 main_c_14

def fn_part1 {F : FTy → Type} [FloatOps F] (main_arg0 : FVec F S16x512x64 .f32) (main_arg1 : FVec F S8192x64 .f32) (main_v12 : FVec F S16x512x8192 .f32) (main_v18 : IVec S16x512 32) : IVec S_ 1 :=
  let main_c_3 : IVec S_ 32 := constantI S_ 32 1#32
  let main_v19 : IVec S16x512 32 := broadcastInDim S16x512 ![] bcast_S_S16x512 main_c_3
  let main_v20 : IVec S16x512 1 := cmpi .eq main_v18 main_v19
  let main_v21 : IVec S16x512 32 := fn_argmin (F := F) main_v12
  let main_v22 : FVec F S16x512x64 .f32 := fn_take (F := F) main_arg1 main_v21
  let main_v23 : FVec F S16x512x64 .f32 := subf main_arg0 main_v22
  let main_v24 : FVec F S16x512x64 .f32 := mulf main_v23 main_v23
  let main_cst_4 : FVec F S_ .f32 := constant S_ .f32 0x00000000#32
  let main_v25 : FVec F S16x512 .f32 := (fun x v => Host.reduceAdd x v reducesTo_S16x512x64_S16x512_d2 h_S_) main_v24 main_cst_4
  let main_v26 : FVec F S16x512x1 .f32 := broadcastInDim S16x512x1 ![0, 1] bcast_S16x512_S16x512x1_0_1 main_v25
  let main_v27 : FVec F S16x512x8192 .f32 := (fun l r => Host.dotGeneral dot_S16x512x64_S8192x64_S16x512x8192_2_1_01_0_n_n none l r) main_v23 main_arg1
  let main_cst_5 : FVec F S_ .f32 := constant S_ .f32 0x40000000#32
  let main_v28 : FVec F S16x512x8192 .f32 := broadcastInDim S16x512x8192 ![] bcast_S_S16x512x8192 main_cst_5
  let main_v29 : FVec F S16x512x8192 .f32 := mulf main_v28 main_v27
  let main_v30 : FVec F S16x512x8192 .f32 := broadcastInDim S16x512x8192 ![0, 1, 2] bcast_S16x512x1_S16x512x8192_0_1_2 main_v26
  let main_v31 : FVec F S16x512x8192 .f32 := subf main_v30 main_v29
  let main_v32 : FVec F S8192x64 .f32 := mulf main_arg1 main_arg1
  let main_cst_6 : FVec F S_ .f32 := constant S_ .f32 0x00000000#32
  let main_v33 : FVec F S8192 .f32 := (fun x v => Host.reduceAdd x v reducesTo_S8192x64_S8192_d1 h_S_) main_v32 main_cst_6
  let main_v34 : FVec F S1x1x8192 .f32 := broadcastInDim S1x1x8192 ![2] bcast_S8192_S1x1x8192_2 main_v33
  let main_v35 : FVec F S16x512x8192 .f32 := broadcastInDim S16x512x8192 ![0, 1, 2] bcast_S1x1x8192_S16x512x8192_0_1_2 main_v34
  let main_v36 : FVec F S16x512x8192 .f32 := addf main_v31 main_v35
  let main_cst_7 : FVec F S_ .f32 := constant S_ .f32 0x7F800000#32
  let main_v37 : FVec F S16x512 .f32 := (fun x v => Host.reduce FloatOps.minimumf x v reducesTo_S16x512x8192_S16x512_d2 h_S_) main_v36 main_cst_7
  fn_part2 (F := F) main_arg0 main_arg1 main_v20 main_v36 main_v37

def fn {F : FTy → Type} [FloatOps F] (main_arg0 : FVec F S16x512x64 .f32) (main_arg1 : FVec F S8192x64 .f32) : IVec S_ 1 :=
  let main_v0 : FVec F S16x512x64 .f32 := mulf main_arg0 main_arg0
  let main_cst : FVec F S_ .f32 := constant S_ .f32 0x00000000#32
  let main_v1 : FVec F S16x512 .f32 := (fun x v => Host.reduceAdd x v reducesTo_S16x512x64_S16x512_d2 h_S_) main_v0 main_cst
  let main_v2 : FVec F S16x512x1 .f32 := broadcastInDim S16x512x1 ![0, 1] bcast_S16x512_S16x512x1_0_1 main_v1
  let main_v3 : FVec F S16x512x8192 .f32 := (fun l r => Host.dotGeneral dot_S16x512x64_S8192x64_S16x512x8192_2_1_01_0_n_n none l r) main_arg0 main_arg1
  let main_cst_0 : FVec F S_ .f32 := constant S_ .f32 0x40000000#32
  let main_v4 : FVec F S16x512x8192 .f32 := broadcastInDim S16x512x8192 ![] bcast_S_S16x512x8192 main_cst_0
  let main_v5 : FVec F S16x512x8192 .f32 := mulf main_v4 main_v3
  let main_v6 : FVec F S16x512x8192 .f32 := broadcastInDim S16x512x8192 ![0, 1, 2] bcast_S16x512x1_S16x512x8192_0_1_2 main_v2
  let main_v7 : FVec F S16x512x8192 .f32 := subf main_v6 main_v5
  let main_v8 : FVec F S8192x64 .f32 := mulf main_arg1 main_arg1
  let main_cst_1 : FVec F S_ .f32 := constant S_ .f32 0x00000000#32
  let main_v9 : FVec F S8192 .f32 := (fun x v => Host.reduceAdd x v reducesTo_S8192x64_S8192_d1 h_S_) main_v8 main_cst_1
  let main_v10 : FVec F S1x1x8192 .f32 := broadcastInDim S1x1x8192 ![2] bcast_S8192_S1x1x8192_2 main_v9
  let main_v11 : FVec F S16x512x8192 .f32 := broadcastInDim S16x512x8192 ![0, 1, 2] bcast_S1x1x8192_S16x512x8192_0_1_2 main_v10
  let main_v12 : FVec F S16x512x8192 .f32 := addf main_v7 main_v11
  let main_cst_2 : FVec F S_ .f32 := constant S_ .f32 0x7F800000#32
  let main_v13 : FVec F S16x512 .f32 := (fun x v => Host.reduce FloatOps.minimumf x v reducesTo_S16x512x8192_S16x512_d2 h_S_) main_v12 main_cst_2
  let main_v14 : FVec F S16x512x1 .f32 := broadcastInDim S16x512x1 ![0, 1] bcast_S16x512_S16x512x1_0_1 main_v13
  let main_v15 : FVec F S16x512x8192 .f32 := broadcastInDim S16x512x8192 ![0, 1, 2] bcast_S16x512x1_S16x512x8192_0_1_2 main_v14
  let main_v16 : IVec S16x512x8192 1 := cmpf .oeq main_v12 main_v15
  let main_v17 : IVec S16x512x8192 32 := (extui 32 · natLt_1_32) main_v16
  let main_c : IVec S_ 32 := constantI S_ 32 0#32
  let main_v18 : IVec S16x512 32 := (fun x v => Host.reduce IntOp.addi x v reducesTo_S16x512x8192_S16x512_d2 h_S_) main_v17 main_c
  fn_part1 (F := F) main_arg0 main_arg1 main_v12 main_v18
-- ==== Kernel.lean ====
abbrev S16x512x64 : Shape := ⟨3, ![16, 512, 64]⟩
abbrev S8192x64 : Shape := ⟨2, ![8192, 64]⟩
abbrev S16x2x512 : Shape := ⟨3, ![16, 2, 512]⟩
abbrev S1x1 : Shape := ⟨2, ![1, 1]⟩
abbrev S512x64 : Shape := ⟨2, ![512, 64]⟩
abbrev S1x2x512 : Shape := ⟨3, ![1, 2, 512]⟩
abbrev S8192x192 : Shape := ⟨2, ![8192, 192]⟩
abbrev S1x8192 : Shape := ⟨2, ![1, 8192]⟩
abbrev S8192 : Shape := ⟨1, ![8192]⟩
abbrev S512x8192 : Shape := ⟨2, ![512, 8192]⟩
abbrev S512 : Shape := ⟨1, ![512]⟩
abbrev S512x1 : Shape := ⟨2, ![512, 1]⟩
abbrev S512x192 : Shape := ⟨2, ![512, 192]⟩
abbrev S1x512x64 : Shape := ⟨3, ![1, 512, 64]⟩
abbrev S1 : Shape := ⟨1, ![1]⟩
abbrev S1x1x1 : Shape := ⟨3, ![1, 1, 1]⟩
abbrev S1x512 : Shape := ⟨2, ![1, 512]⟩
abbrev S2x512 : Shape := ⟨2, ![2, 512]⟩
abbrev S16x512x2 : Shape := ⟨3, ![16, 512, 2]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S16x512x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S16x2x512, .i32⟩
  | .hbm, ⟨5, _⟩ => ⟨S1x1, .f32⟩
  | .hbm, ⟨6, _⟩ => ⟨S16x512x64, .f32⟩
  | .hbm, ⟨7, _⟩ => ⟨S16x512x2, .i32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S8192x64, .f32⟩
  | .local _ .vmem, ⟨3, _⟩ => ⟨S512x64, .f32⟩
  | .local _ .vmem, ⟨4, _⟩ => ⟨S512x64, .f32⟩
  | .local _ .vmem, ⟨5, _⟩ => ⟨S1x2x512, .i32⟩
  | .local _ .vmem, ⟨6, _⟩ => ⟨S1x2x512, .i32⟩
  | .local _ .vmem, ⟨7, _⟩ => ⟨S1x1, .f32⟩
  | .local _ .vmem, ⟨8, _⟩ => ⟨S8192x64, .bf16⟩
  | .local _ .vmem, ⟨9, _⟩ => ⟨S8192x192, .bf16⟩
  | .local _ .vmem, ⟨10, _⟩ => ⟨S1x8192, .f32⟩
  | _, _ => ⟨S16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x512x64 : Shape := ⟨3, ![16, 512, 64]⟩
abbrev S8192x64 : Shape := ⟨2, ![8192, 64]⟩
abbrev S_ : Shape := ⟨0, ![]⟩
abbrev S8192 : Shape := ⟨1, ![8192]⟩
abbrev S16x512 : Shape := ⟨2, ![16, 512]⟩
abbrev S16x512x1 : Shape := ⟨3, ![16, 512, 1]⟩
abbrev S16x512x8192 : Shape := ⟨3, ![16, 512, 8192]⟩
abbrev S1x1x8192 : Shape := ⟨3, ![1, 1, 8192]⟩
abbrev S1 : Shape := ⟨1, ![1]⟩
abbrev S1x1x1 : Shape := ⟨3, ![1, 1, 1]⟩
abbrev S16x512x2 : Shape := ⟨3, ![16, 512, 2]⟩

abbrev nBuf : Space → Nat
  | .hbm => 133
  | .vmem => 0
  | .smem => 0
  | _ => 0

abbrev hbmTy0_0 (i : Nat) : BufTy := match i % 128 with
  | 0 => ⟨S16x512x64, .f32⟩
  | 1 => ⟨S8192x64, .f32⟩
  | 2 => ⟨S8192x64, .f32⟩
  | 3 => ⟨S_, .f32⟩
  | 4 => ⟨S8192, .f32⟩
  | 5 => ⟨S_, .f32⟩
  | 6 => ⟨S16x512x64, .f32⟩
  | 7 => ⟨S16x512x64, .f32⟩
  | 8 => ⟨S_, .f32⟩
  | 9 => ⟨S16x512, .f32⟩
  | 10 => ⟨S16x512x1, .f32⟩
  | 11 => ⟨S16x512x8192, .f32⟩
  | 12 => ⟨S_, .f32⟩
  | 13 => ⟨S16x512x8192, .f32⟩
  | 14 => ⟨S16x512x8192, .f32⟩
  | 15 => ⟨S16x512x8192, .f32⟩
  | 16 => ⟨S16x512x8192, .f32⟩
  | 17 => ⟨S1x1x8192, .f32⟩
  | 18 => ⟨S16x512x8192, .f32⟩
  | 19 => ⟨S16x512x8192, .f32⟩
  | 20 => ⟨S16x512x8192, .i32⟩
  | 21 => ⟨S_, .f32⟩
  | 22 => ⟨S_, .i32⟩
  | 23 => ⟨S16x512, .f32⟩
  | 24 => ⟨S16x512, .i32⟩
  | 25 => ⟨S_, .i32⟩
  | 26 => ⟨S16x512, .i32⟩
  | 27 => ⟨S16x512, .i1⟩
  | 28 => ⟨S_, .i32⟩
  | 29 => ⟨S16x512, .i32⟩
  | 30 => ⟨S16x512, .i32⟩
  | 31 => ⟨S16x512, .i32⟩
  | 32 => ⟨S16x512x1, .i32⟩
  | 33 => ⟨S1, .i32⟩
  | 34 => ⟨S_, .i32⟩
  | 35 => ⟨S16x512x1, .i32⟩
  | 36 => ⟨S16x512x1, .i1⟩
  | 37 => ⟨S1x1x1, .i32⟩
  | 38 => ⟨S16x512x1, .i32⟩
  | 39 => ⟨S16x512x1, .i1⟩
  | 40 => ⟨S16x512x1, .i1⟩
  | 41 => ⟨S_, .i1⟩
  | 42 => ⟨S16x512, .i1⟩
  | 43 => ⟨S16x512x64, .f32⟩
  | 44 => ⟨S16x512x64, .i1⟩
  | 45 => ⟨S_, .f32⟩
  | 46 => ⟨S16x512x64, .f32⟩
  | 47 => ⟨S16x512x64, .f32⟩
  | 48 => ⟨S16x512x64, .f32⟩
  | 49 => ⟨S16x512x64, .f32⟩
  | 50 => ⟨S_, .f32⟩
  | 51 => ⟨S_, .f32⟩
  | 52 => ⟨S_, .f32⟩
  | 53 => ⟨S_, .f32⟩
  | 54 => ⟨S16x512x64, .f32⟩
  | 55 => ⟨S16x512x64, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S16x512x64, .f32⟩
  | 66 => ⟨S16x512x64, .f32⟩
  | 67 => ⟨S16x512x64, .f32⟩
  | 68 => ⟨S16x512x64, .f32⟩
  | 69 => ⟨S16x512x64, .f32⟩
  | 70 => ⟨S_, .f32⟩
  | 71 => ⟨S16x512, .f32⟩
  | 72 => ⟨S16x512x1, .f32⟩
  | 73 => ⟨S16x512x8192, .f32⟩
  | 74 => ⟨S_, .f32⟩
  | 75 => ⟨S16x512x8192, .f32⟩
  | 76 => ⟨S16x512x8192, .f32⟩
  | 77 => ⟨S16x512x8192, .f32⟩
  | 78 => ⟨S16x512x8192, .f32⟩
  | 79 => ⟨S1x1x8192, .f32⟩
  | 80 => ⟨S16x512x8192, .f32⟩
  | 81 => ⟨S16x512x8192, .f32⟩
  | 82 => ⟨S16x512x8192, .i32⟩
  | 83 => ⟨S_, .f32⟩
  | 84 => ⟨S_, .i32⟩
  | 85 => ⟨S16x512, .f32⟩
  | 86 => ⟨S16x512, .i32⟩
  | 87 => ⟨S_, .i32⟩
  | 88 => ⟨S16x512, .i32⟩
  | 89 => ⟨S16x512, .i1⟩
  | 90 => ⟨S_, .i32⟩
  | 91 => ⟨S16x512, .i32⟩
  | 92 => ⟨S16x512, .i32⟩
  | 93 => ⟨S16x512, .i32⟩
  | 94 => ⟨S16x512x1, .i32⟩
  | 95 => ⟨S1, .i32⟩
  | 96 => ⟨S_, .i32⟩
  | 97 => ⟨S16x512x1, .i32⟩
  | 98 => ⟨S16x512x1, .i1⟩
  | 99 => ⟨S1x1x1, .i32⟩
  | 100 => ⟨S16x512x1, .i32⟩
  | 101 => ⟨S16x512x1, .i1⟩
  | 102 => ⟨S16x512x1, .i1⟩
  | 103 => ⟨S_, .i1⟩
  | 104 => ⟨S16x512, .i1⟩
  | 105 => ⟨S16x512x64, .f32⟩
  | 106 => ⟨S16x512x64, .i1⟩
  | 107 => ⟨S_, .f32⟩
  | 108 => ⟨S16x512x64, .f32⟩
  | 109 => ⟨S16x512x64, .f32⟩
  | 110 => ⟨S16x512x64, .f32⟩
  | 111 => ⟨S16x512x64, .f32⟩
  | 112 => ⟨S_, .f32⟩
  | 113 => ⟨S_, .f32⟩
  | 114 => ⟨S_, .f32⟩
  | 115 => ⟨S_, .f32⟩
  | 116 => ⟨S16x512x64, .f32⟩
  | 117 => ⟨S16x512x64, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S16x512x64, .f32⟩
  | 127 => ⟨S16x512x64, .f32⟩
  | _ => ⟨S16x512x64, .f32⟩

abbrev hbmTy0_1 (i : Nat) : BufTy := match i % 128 with
  | 0 => ⟨S16x512x64, .f32⟩
  | 1 => ⟨S16x512x64, .f32⟩
  | 2 => ⟨S16x512x1, .i32⟩
  | 3 => ⟨S16x512x1, .i32⟩
  | 4 => ⟨S16x512x2, .i32⟩
  | _ => ⟨S16x512x64, .f32⟩

abbrev hbmTy (i : Nat) : BufTy := match i / 128 with
  | 0 => hbmTy0_0 i
  | 1 => hbmTy0_1 i
  | _ => ⟨S16x512x64, .f32⟩

abbrev bufTy : (tb : Table) → Fin (tcTables nBuf tb) → BufTy
  | .hbm, ⟨i, _⟩ => hbmTy i
  | _, _ => ⟨S16x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_cst_8 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_9 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call2_v0 : Ref sig .tc := ⟨.hbm, 82, rfl⟩
abbrev main_call2_cst : Ref sig .tc := ⟨.hbm, 83, rfl⟩
abbrev main_call2_c : Ref sig .tc := ⟨.hbm, 84, rfl⟩
abbrev main_call2_v1_0 : Ref sig .tc := ⟨.hbm, 85, rfl⟩
abbrev main_v42 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_11 : Ref sig .tc := ⟨.hbm, 112, rfl⟩
abbrev main_v46 : Ref sig .tc := ⟨.hbm, 113, rfl⟩
abbrev main_cst_12 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_13 : Ref sig .tc := ⟨.hbm, 118, rfl⟩
abbrev main_v50 : Ref sig .tc := ⟨.hbm, 119, rfl⟩
abbrev main_cst_14 : Ref sig .tc := ⟨.hbm, 120, rfl⟩
abbrev main_v51 : Ref sig .tc := ⟨.hbm, 121, rfl⟩
abbrev main_cst_15 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩

abbrev nD : Nat := 1
abbrev τ : Topo := Topo.v7x

variable {F : FTy → Type} [FloatOps F]
-- ==== Proof.RefOps.lean ====
/- The reference program's @main as lists of its host operations, in seven consecutive stretches: the first stage's
   scores, its least index, its code vectors, its loss and residual; the same for the second stage; the results.
   `main_eq` says that the program is the run of these lists in order; the side conditions of `run_seq` follow. -/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The least value along the last axis (with its index), by the two-operand reduction. -/
def leastValue (x : FVec F S16x512x8192 .f32) (y : IVec S16x512x8192 32) (u : FVec F S_ .f32) (v : IVec S_ 32) : FVec F S16x512 .f32 :=
  fun j => (Host.argReduce reducer_argmin_f32_i32 x y u v reducesTo_S16x512x8192_S16x512_d2 h_S_ j).1

/-- The index that the two-operand reduction gives with the least value, at any shapes. -/
def leastAt {s t u : Shape} {axes : List (Fin s.rank)} (x : FVec F s .f32) (y : IVec s 32) (ix : FVec F u .f32) (iy : IVec u 32)
    (h : s.ReducesTo axes t) (hu : 0 < u.numel) : IVec t 32 :=
  fun j => (Host.argReduce reducer_argmin_f32_i32 x y ix iy h hu j).2

/-- The index of that value. -/
def leastIndex (x : FVec F S16x512x8192 .f32) (y : IVec S16x512x8192 32) (u : FVec F S_ .f32) (v : IVec S_ 32) : IVec S16x512 32 :=
  leastAt x y u v reducesTo_S16x512x8192_S16x512_d2 h_S_

/-- Two columns of indices side by side. -/
def pairUp (a b : IVec S16x512x1 32) : IVec S16x512x2 32 :=
  concatenate S16x512x2 2 [⟨S16x512x1, a⟩, ⟨S16x512x1, b⟩] concatenates_S16x512x1_S16x512x1_S16x512x2_d2

/-- The codebook's squared norms, the zero start of the sum, and the first stage's scores. -/
abbrev scoreOps1 : List (HloOp τ sig (Elt F)) :=
  [ binary main_arg1 main_arg1 main_v0 (mulf : (⟨S8192x64, .f32⟩ : BufTy).Contents (Elt F) → (⟨S8192x64, .f32⟩ : BufTy).Contents (Elt F) → (⟨S8192x64, .f32⟩ : BufTy).Contents (Elt F)),
    nullary main_cst (constant S_ .f32 0x00000000#32),
    binary main_v0 main_cst main_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    nullary main_cst_0 (constant S_ .f32 0x00000000#32),
    unary main_cst_0 main_v2 (broadcastInDim S16x512x64 ![] bcast_S_S16x512x64 : (⟨S_, .f32⟩ : BufTy).Contents (Elt F) → (⟨S16x512x64, .f32⟩ : BufTy).Contents (Elt F)),
    binary main_arg0 main_arg0 main_v3 (mulf : (⟨S16x512x64, .f32⟩ : BufTy).Contents (Elt F) → (⟨S16x512x64, .f32⟩ : BufTy).Contents (Elt F) → (⟨S16x512x64, .f32⟩ : BufTy).Contents (Elt F)),
    nullary main_cst_1 (constant S_ .f32 0x00000000#32),
    binary main_v3 main_cst_1 main_v4 ((fun x v => Host.reduceAdd x v reducesTo_S16x512x64_S16x512_d2 h_S_) : (⟨S16x512x64, .f32⟩ : BufTy).Contents (Elt F) → (⟨S_, .f32⟩ : BufTy).Contents (Elt F) → (⟨S16x512, .f32⟩ : BufTy).Contents (Elt F)),
    unary main_v4 main_v5 (broadcastInDim S16x512x1 ![0, 1] bcast_S16x512_S16x512x1_0_1 : (⟨S16x512, .f32⟩ : BufTy).Contents (Elt F) → (⟨S16x512x1, .f32⟩ : BufTy).Contents (Elt F)),
    binary main_arg0 main_arg1 main_v6 ((fun l r => Host.dotGeneral dot_S16x512x64_S8192x64_S16x512x8192_2_1_01_0_n_n none l r) : (⟨S16x512x64, .f32⟩ : BufTy).Contents (Elt F) → (⟨S8192x64, .f32⟩ : BufTy).Contents (Elt F) → (⟨S16x512x8192, .f32⟩ : BufTy).Contents (Elt F)),
    nullary main_cst_2 (constant S_ .f32 0x40000000#32),
    unary main_cst_2 main_v7 (broadcastInDim S16x512x8192 ![] bcast_S_S16x512x8192 : (⟨S_, .f32⟩ : BufTy).Contents (Elt F) → (⟨S16x512x8192, .f32⟩ : BufTy).Contents (Elt F)),
    binary main_v7 main_v6 main_v8 (mulf : (⟨S16x512x8192, .f32⟩ : BufTy).Contents (Elt F) → (⟨S16x512x8192, .f32⟩ : BufTy).Contents (Elt F) → (⟨S16x512x8192, .f32⟩ : BufTy).Contents (Elt F)),
    unary main_v5 main_v9 (broadcastInDim S16x512x8192 ![0, 1, 2] bcast_S16x512x1_S16x512x8192_0_1_2 : (⟨S16x512x1, .f32⟩ : BufTy).Contents (Elt F) → (⟨S16x512x8192, .f32⟩ : BufTy).Contents (Elt F)),
    binary main_v9 main_v8 main_v10 (subf : (⟨S16x512x8192, .f32⟩ : BufTy).Contents (Elt F) → (⟨S16x512x8192, .f32⟩ : BufTy).Contents (Elt F) → (⟨S16x512x8192, .f32⟩ : BufTy).Contents (Elt F)),
    unary main_v1 main_v11 (broadcastInDim S1x1x8192 ![2] bcast_S8192_S1x1x8192_2 : (⟨S8192, .f32⟩ : BufTy).Contents (Elt F) → (⟨S1x1x8192, .f32⟩ : BufTy).Contents (Elt F)),
    unary main_v11 main_v12 (broadcastInDim S16x512x8192 ![0, 1, 2] bcast_S1x1x8192_S16x512x8192_0_1_2 : (⟨S1x1x8192, .f32⟩ : BufTy).Contents (Elt F) → (⟨S16x512x8192, .f32⟩ : BufTy).Contents (Elt F)),
    binary main_v10 main_v12 main_v13 (addf : (⟨S16x512x8192, .f32⟩ : BufTy).Contents (Elt F) → (⟨S16x512x8192, .f32⟩ : BufTy).Contents (Elt F) → (⟨S16x512x8192, .f32⟩ : BufTy).Contents (Elt F)) ]

/-- The index of the least score: the body of the function that computes it, over its operand and its buffers. -/
abbrev argOps (arg0 : TRef sig ⟨S16x512x8192, .f32⟩) (φ : fn_argmin.Bufs) : List (HloOp τ sig (Elt F)) :=
  [ TRef.nullary φ.v0 (iotaInDim S16x512x8192 32 2),
    TRef.nullary φ.cst (constant S_ .f32 0x7F800000#32),
    TRef.nullary φ.c (constantI S_ 32 0#32),
    TRef.quaternary arg0 φ.v0 φ.cst φ.c φ.v1_0 leastValue,
    TRef.quaternary arg0 φ.v0 φ.cst φ.c φ.v1_1 leastIndex ]

/-- The code vectors at the indices: the body of the function that reads them, over its operands and its buffers. -/
abbrev takeOps (arg0 : TRef sig ⟨S8192x64, .f32⟩) (arg1 : TRef sig ⟨S16x512, .i32⟩) (φ : fn_take.Bufs) : List (HloOp τ sig (Elt F)) :=
  [ TRef.nullary φ.c (constantI S_ 32 0#32),
    TRef.unary φ.c φ.v0 (broadcastInDim S16x512 ![] bcast_S_S16x512),
    TRef.binary arg1 φ.v0 φ.v1 (cmpi .slt),
    TRef.nullary φ.c_0 (constantI S_ 32 8192#32),
    TRef.unary φ.c_0 φ.v2 (broadcastInDim S16x512 ![] bcast_S_S16x512),
    TRef.binary arg1 φ.v2 φ.v3 addi,
    TRef.ternary φ.v1 φ.v3 arg1 φ.call0.v0 select,
    TRef.unary φ.call0.v0 φ.v5 (broadcastInDim S16x512x1 ![0, 1] bcast_S16x512_S16x512x1_0_1),
    TRef.nullary φ.c_1 (constantI S1 32 8191#32),
    TRef.nullary φ.c_2 (constantI S_ 32 0#32),
    TRef.unary φ.c_2 φ.v6 (broadcastInDim S16x512x1 ![] bcast_S_S16x512x1),
    TRef.binary φ.v5 φ.v6 φ.v7 (cmpi .sge),
    TRef.unary φ.c_1 φ.v8 (broadcastInDim S1x1x1 ![2] bcast_S1_S1x1x1_2),
    TRef.unary φ.v8 φ.v9 (broadcastInDim S16x512x1 ![0, 1, 2] bcast_S1x1x1_S16x512x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16x512x1_S16x512_d2 h_S_),
    TRef.binary arg0 φ.v5 φ.v13 (fun x i => Host.gather gather_S8192x64_S16x512x1_S16x512x64_2_0_n_n_0_2_164 x i),
    TRef.unary φ.v12 φ.v14 (broadcastInDim S16x512x64 ![0, 1] bcast_S16x512_S16x512x64_0_1),
    TRef.nullary φ.cst (constant S_ .f32 0x7FC00000#32),
    TRef.unary φ.cst φ.v15 (broadcastInDim S16x512x64 ![] bcast_S_S16x512x64),
    TRef.ternary φ.v14 φ.v13 φ.v15 φ.v16 select ]

/-- The first stage's loss, its contribution to the sum, its residual. -/
abbrev stepOps1 : List (HloOp τ sig (Elt F)) :=
  [ binary main_arg0 main_v15 main_v16 (subf : (⟨S16x512x64, .f32⟩ : BufTy).Contents (Elt F) → (⟨S16x512x64, .f32⟩ : BufTy).Contents (Elt F) → (⟨S16x512x64, .f32⟩ : BufTy).Contents (Elt F)),
    binary main_v16 main_v16 main_v17 (mulf : (⟨S16x512x64, .f32⟩ : BufTy).Contents (Elt F) → (⟨S16x512x64, .f32⟩ : BufTy).Contents (Elt F) → (⟨S16x512x64, .f32⟩ : BufTy).Contents (Elt F)),
    nullary main_cst_3 (constant S_ .f32 0x00000000#32),
    binary main_v17 main_cst_3 main_v18 ((fun x v => Host.reduceAdd x v reducesTo_S16x512x64_S_d0_1_2 h_S_) : (⟨S16x512x64, .f32⟩ : BufTy).Contents (Elt F) → (⟨S_, .f32⟩ : BufTy).Contents (Elt F) → (⟨S_, .f32⟩ : BufTy).Contents (Elt F)),
    nullary main_cst_4 (constant S_ .f32 0x49000000#32),
    binary main_v18 main_cst_4 main_v19 (Host.divf : (⟨S_, .f32⟩ : BufTy).Contents (Elt F) → (⟨S_, .f32⟩ : BufTy).Contents (Elt F) → (⟨S_, .f32⟩ : BufTy).Contents (Elt F)),
    binary main_arg0 main_v15 main_v20 (subf : (⟨S16x512x64, .f32⟩ : BufTy).Contents (Elt F) → (⟨S16x512x64, .f32⟩ : BufTy).Contents (Elt F) → (⟨S16x512x64, .f32⟩ : BufTy).Contents (Elt F)),
    binary main_v20 main_v20 main_v21 (mulf : (⟨S16x512x64, .f32⟩ : BufTy).Contents (Elt F) → (⟨S16x512x64, .f32⟩ : BufTy).Contents (Elt F) → (⟨S16x512x64, .f32⟩ : BufTy).Contents (Elt F)),
    nullary main_cst_5 (constant S_ .f32 0x00000000#32),
    binary main_v21 main_cst_5 main_v22 ((fun x v => Host.reduceAdd x v reducesTo_S16x512x64_S_d0_1_2 h_S_) : (⟨S16x512x64, .f32⟩ : BufTy).Contents (Elt F) → (⟨S_, .f32⟩ : BufTy).Contents (Elt F) → (⟨S_, .f32⟩ : BufTy).Contents (Elt F)),
    nullary main_cst_6 (constant S_ .f32 0x49000000#32),
    binary main_v22 main_cst_6 main_v23 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v19 main_v24 (mulf : (⟨S_, .f32⟩ : BufTy).Contents (Elt F) → (⟨S_, .f32⟩ : BufTy).Contents (Elt F) → (⟨S_, .f32⟩ : BufTy).Contents (Elt F)),
    nullary main_cst_8 (constant S_ .f32 0x00000000#32),
    binary main_cst_8 main_v24 main_v25 (addf : (⟨S_, .f32⟩ : BufTy).Contents (Elt F) → (⟨S_, .f32⟩ : BufTy).Contents (Elt F) → (⟨S_, .f32⟩ : BufTy).Contents (Elt F)),
    binary main_v25 main_v23 main_v26 (addf : (⟨S_, .f32⟩ : BufTy).Contents (Elt F) → (⟨S_, .f32⟩ : BufTy).Contents (Elt F) → (⟨S_, .f32⟩ : BufTy).Contents (Elt F)),
    binary main_v15 main_arg0 main_v27 (subf : (⟨S16x512x64, .f32⟩ : BufTy).Contents (Elt F) → (⟨S16x512x64, .f32⟩ : BufTy).Contents (Elt F) → (⟨S16x512x64, .f32⟩ : BufTy).Contents (Elt F)),
    binary main_arg0 main_v27 main_v28 (addf : (⟨S16x512x64, .f32⟩ : BufTy).Contents (Elt F) → (⟨S16x512x64, .f32⟩ : BufTy).Contents (Elt F) → (⟨S16x512x64, .f32⟩ : BufTy).Contents (Elt F)),
    binary main_v2 main_v28 main_v29 (addf : (⟨S16x512x64, .f32⟩ : BufTy).Contents (Elt F) → (⟨S16x512x64, .f32⟩ : BufTy).Contents (Elt F) → (⟨S16x512x64, .f32⟩ : BufTy).Contents (Elt F)),
    binary main_arg0 main_v15 main_v30 (subf : (⟨S16x512x64, .f32⟩ : BufTy).Contents (Elt F) → (⟨S16x512x64, .f32⟩ : BufTy).Contents (Elt F) → (⟨S16x512x64, .f32⟩ : BufTy).Contents (Elt F)) ]

/-- The second stage's scores. -/
abbrev scoreOps2 : List (HloOp τ sig (Elt F)) :=
  [ binary main_v30 main_v30 main_v31 (mulf : (⟨S16x512x64, .f32⟩ : BufTy).Contents (Elt F) → (⟨S16x512x64, .f32⟩ : BufTy).Contents (Elt F) → (⟨S16x512x64, .f32⟩ : BufTy).Contents (Elt F)),
    nullary main_cst_9 (constant S_ .f32 0x00000000#32),
    binary main_v31 main_cst_9 main_v32 ((fun x v => Host.reduceAdd x v reducesTo_S16x512x64_S16x512_d2 h_S_) : (⟨S16x512x64, .f32⟩ : BufTy).Contents (Elt F) → (⟨S_, .f32⟩ : BufTy).Contents (Elt F) → (⟨S16x512, .f32⟩ : BufTy).Contents (Elt F)),
    unary main_v32 main_v33 (broadcastInDim S16x512x1 ![0, 1] bcast_S16x512_S16x512x1_0_1 : (⟨S16x512, .f32⟩ : BufTy).Contents (Elt F) → (⟨S16x512x1, .f32⟩ : BufTy).Contents (Elt F)),
    binary main_v30 main_arg1 main_v34 ((fun l r => Host.dotGeneral dot_S16x512x64_S8192x64_S16x512x8192_2_1_01_0_n_n none l r) : (⟨S16x512x64, .f32⟩ : BufTy).Contents (Elt F) → (⟨S8192x64, .f32⟩ : BufTy).Contents (Elt F) → (⟨S16x512x8192, .f32⟩ : BufTy).Contents (Elt F)),
    nullary main_cst_10 (constant S_ .f32 0x40000000#32),
    unary main_cst_10 main_v35 (broadcastInDim S16x512x8192 ![] bcast_S_S16x512x8192 : (⟨S_, .f32⟩ : BufTy).Contents (Elt F) → (⟨S16x512x8192, .f32⟩ : BufTy).Contents (Elt F)),
    binary main_v35 main_v34 main_v36 (mulf : (⟨S16x512x8192, .f32⟩ : BufTy).Contents (Elt F) → (⟨S16x512x8192, .f32⟩ : BufTy).Contents (Elt F) → (⟨S16x512x8192, .f32⟩ : BufTy).Contents (Elt F)),
    unary main_v33 main_v37 (broadcastInDim S16x512x8192 ![0, 1, 2] bcast_S16x512x1_S16x512x8192_0_1_2 : (⟨S16x512x1, .f32⟩ : BufTy).Contents (Elt F) → (⟨S16x512x8192, .f32⟩ : BufTy).Contents (Elt F)),
    binary main_v37 main_v36 main_v38 (subf : (⟨S16x512x8192, .f32⟩ : BufTy).Contents (Elt F) → (⟨S16x512x8192, .f32⟩ : BufTy).Contents (Elt F) → (⟨S16x512x8192, .f32⟩ : BufTy).Contents (Elt F)),
    unary main_v1 main_v39 (broadcastInDim S1x1x8192 ![2] bcast_S8192_S1x1x8192_2 : (⟨S8192, .f32⟩ : BufTy).Contents (Elt F) → (⟨S1x1x8192, .f32⟩ : BufTy).Contents (Elt F)),
    unary main_v39 main_v40 (broadcastInDim S16x512x8192 ![0, 1, 2] bcast_S1x1x8192_S16x512x8192_0_1_2 : (⟨S1x1x8192, .f32⟩ : BufTy).Contents (Elt F) → (⟨S16x512x8192, .f32⟩ : BufTy).Contents (Elt F)),
    binary main_v38 main_v40 main_v41 (addf : (⟨S16x512x8192, .f32⟩ : BufTy).Contents (Elt F) → (⟨S16x512x8192, .f32⟩ : BufTy).Contents (Elt F) → (⟨S16x512x8192, .f32⟩ : BufTy).Contents (Elt F)) ]

/-- The start of the second stage's loss. -/
abbrev stepOps2 : List (HloOp τ sig (Elt F)) :=
  [ binary main_v30 main_v43 main_v44 (subf : (⟨S16x512x64, .f32⟩ : BufTy).Contents (Elt F) → (⟨S16x512x64, .f32⟩ : BufTy).Contents (Elt F) → (⟨S16x512x64, .f32⟩ : BufTy).Contents (Elt F)),
    binary main_v44 main_v44 main_v45 (mulf : (⟨S16x512x64, .f32⟩ : BufTy).Contents (Elt F) → (⟨S16x512x64, .f32⟩ : BufTy).Contents (Elt F) → (⟨S16x512x64, .f32⟩ : BufTy).Contents (Elt F)),
    nullary main_cst_11 (constant S_ .f32 0x00000000#32),
    binary main_v45 main_cst_11 main_v46 ((fun x v => Host.reduceAdd x v reducesTo_S16x512x64_S_d0_1_2 h_S_) : (⟨S16x512x64, .f32⟩ : BufTy).Contents (Elt F) → (⟨S_, .f32⟩ : BufTy).Contents (Elt F) → (⟨S_, .f32⟩ : BufTy).Contents (Elt F)) ]

/-- The second stage's loss, and the results. -/
abbrev tailOps : List (HloOp τ sig (Elt F)) :=
  [ nullary main_cst_12 (constant S_ .f32 0x49000000#32),
    binary main_v46 main_cst_12 main_v47 (Host.divf : (⟨S_, .f32⟩ : BufTy).Contents (Elt F) → (⟨S_, .f32⟩ : BufTy).Contents (Elt F) → (⟨S_, .f32⟩ : BufTy).Contents (Elt F)),
    binary main_v30 main_v43 main_v48 (subf : (⟨S16x512x64, .f32⟩ : BufTy).Contents (Elt F) → (⟨S16x512x64, .f32⟩ : BufTy).Contents (Elt F) → (⟨S16x512x64, .f32⟩ : BufTy).Contents (Elt F)),
    binary main_v48 main_v48 main_v49 (mulf : (⟨S16x512x64, .f32⟩ : BufTy).Contents (Elt F) → (⟨S16x512x64, .f32⟩ : BufTy).Contents (Elt F) → (⟨S16x512x64, .f32⟩ : BufTy).Contents (Elt F)),
    nullary main_cst_13 (constant S_ .f32 0x00000000#32),
    binary main_v49 main_cst_13 main_v50 ((fun x v => Host.reduceAdd x v reducesTo_S16x512x64_S_d0_1_2 h_S_) : (⟨S16x512x64, .f32⟩ : BufTy).Contents (Elt F) → (⟨S_, .f32⟩ : BufTy).Contents (Elt F) → (⟨S_, .f32⟩ : BufTy).Contents (Elt F)),
    nullary main_cst_14 (constant S_ .f32 0x49000000#32),
    binary main_v50 main_cst_14 main_v51 (Host.divf : (⟨S_, .f32⟩ : BufTy).Contents (Elt F) → (⟨S_, .f32⟩ : BufTy).Contents (Elt F) → (⟨S_, .f32⟩ : BufTy).Contents (Elt F)),
    nullary main_cst_15 (constant S_ .f32 0x3F800000#32),
    binary main_cst_15 main_v47 main_v52 (mulf : (⟨S_, .f32⟩ : BufTy).Contents (Elt F) → (⟨S_, .f32⟩ : BufTy).Contents (Elt F) → (⟨S_, .f32⟩ : BufTy).Contents (Elt F)),
    binary main_v26 main_v52 main_v53 (addf : (⟨S_, .f32⟩ : BufTy).Contents (Elt F) → (⟨S_, .f32⟩ : BufTy).Contents (Elt F) → (⟨S_, .f32⟩ : BufTy).Contents (Elt F)),
    binary main_v53 main_v51 main_v54 (addf : (⟨S_, .f32⟩ : BufTy).Contents (Elt F) → (⟨S_, .f32⟩ : BufTy).Contents (Elt F) → (⟨S_, .f32⟩ : BufTy).Contents (Elt F)),
    binary main_v43 main_v30 main_v55 (subf : (⟨S16x512x64, .f32⟩ : BufTy).Contents (Elt F) → (⟨S16x512x64, .f32⟩ : BufTy).Contents (Elt F) → (⟨S16x512x64, .f32⟩ : BufTy).Contents (Elt F)),
    binary main_v30 main_v55 main_v56 (addf : (⟨S16x512x64, .f32⟩ : BufTy).Contents (Elt F) → (⟨S16x512x64, .f32⟩ : BufTy).Contents (Elt F) → (⟨S16x512x64, .f32⟩ : BufTy).Contents (Elt F)),
    binary main_v29 main_v56 main_v57 (addf : (⟨S16x512x64, .f32⟩ : BufTy).Contents (Elt F) → (⟨S16x512x64, .f32⟩ : BufTy).Contents (Elt F) → (⟨S16x512x64, .f32⟩ : BufTy).Contents (Elt F)),
    binary main_v30 main_v43 main_v58 (subf : (⟨S16x512x64, .f32⟩ : BufTy).Contents (Elt F) → (⟨S16x512x64, .f32⟩ : BufTy).Contents (Elt F) → (⟨S16x512x64, .f32⟩ : BufTy).Contents (Elt F)),
    unary main_v14 main_v59 (broadcastInDim S16x512x1 ![0, 1] bcast_S16x512_S16x512x1_0_1 : (⟨S16x512, .i32⟩ : BufTy).Contents (Elt F) → (⟨S16x512x1, .i32⟩ : BufTy).Contents (Elt F)),
    unary main_v42 main_v60 (broadcastInDim S16x512x1 ![0, 1] bcast_S16x512_S16x512x1_0_1 : (⟨S16x512, .i32⟩ : BufTy).Contents (Elt F) → (⟨S16x512x1, .i32⟩ : BufTy).Contents (Elt F)),
    binary main_v59 main_v60 main_v61 (pairUp : (⟨S16x512x1, .i32⟩ : BufTy).Contents (Elt F) → (⟨S16x512x1, .i32⟩ : BufTy).Contents (Elt F) → (⟨S16x512x2, .i32⟩ : BufTy).Contents (Elt F)) ]

/-- The first stage's index and code vectors. -/
abbrev argOps1 : List (HloOp τ sig (Elt F)) := argOps (.of main_v13) main_call0
abbrev takeOps1 : List (HloOp τ sig (Elt F)) := takeOps (.of main_arg1) (.of main_v14) main_call1
/-- The second stage's. -/
abbrev argOps2 : List (HloOp τ sig (Elt F)) := argOps (.of main_v41) main_call2
abbrev takeOps2 : List (HloOp τ sig (Elt F)) := takeOps (.of main_arg1) (.of main_v42) main_call3

abbrev ops0 : List (HloOp τ sig (Elt F)) :=
  scoreOps1 ++ (argOps1 ++ (takeOps1 ++ (stepOps1 ++ (scoreOps2 ++ (argOps2 ++ (takeOps2 ++ stepOps2))))))
/-- All the operations, in order. -/
abbrev ops : List (HloOp τ sig (Elt F)) := ops0 ++ tailOps

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq tailOps := rfl

/-- The program is the run of its operations in order. -/
theorem main_eq (c : Dev nD) : main (F := F) c = seq ops := by
  rw [ops, seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

/-- What the run asks of an operation: it touches the core's buffers only, and allocates none. -/
abbrev Plain (op : HloOp τ sig (Elt F)) : Prop := op.bufs ⊆ tcRefs τ sig ∧ op.fresh = ∅

theorem plain_of {l : List (HloOp τ sig (Elt F))} (h : l.Forall fun op => op.bufs ⊆ tcRefs τ sig) (h' : l.Forall fun op => op.fresh = ∅) :
    ∀ op ∈ l, Plain op := fun op hop => ⟨List.forall_iff_forall_mem.mp h op hop, List.forall_iff_forall_mem.mp h' op hop⟩

set_option maxRecDepth 8192 in
theorem scoreOps1_plain : ∀ op ∈ (scoreOps1 : List (HloOp τ sig (Elt F))), Plain op :=
  plain_of ⟨binary_bufs_sub .., nullary_bufs_sub .., binary_bufs_sub .., nullary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub ..⟩
    ⟨rfl, rfl, rfl, rfl, rfl, rfl, rfl, rfl, rfl, rfl, rfl, rfl, rfl, rfl, rfl, rfl, rfl, rfl⟩
set_option maxRecDepth 8192 in
theorem argOps_plain (x : TRef sig ⟨S16x512x8192, .f32⟩) (φ : fn_argmin.Bufs) : ∀ op ∈ (argOps x φ : List (HloOp τ sig (Elt F))), Plain op :=
  plain_of ⟨nullary_bufs_sub .., nullary_bufs_sub .., nullary_bufs_sub .., quaternary_bufs_sub .., quaternary_bufs_sub ..⟩
    ⟨rfl, rfl, rfl, rfl, rfl⟩
set_option maxRecDepth 8192 in
theorem takeOps_plain (x : TRef sig ⟨S8192x64, .f32⟩) (i : TRef sig ⟨S16x512, .i32⟩) (φ : fn_take.Bufs) :
    ∀ op ∈ (takeOps x i φ : List (HloOp τ sig (Elt F))), Plain op :=
  plain_of ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
    ⟨rfl, rfl, rfl, rfl, rfl, rfl, rfl, rfl, rfl, rfl, rfl, rfl, rfl, rfl, rfl, rfl, rfl, rfl, rfl, rfl, rfl, rfl, rfl⟩
set_option maxRecDepth 8192 in
theorem stepOps1_plain : ∀ op ∈ (stepOps1 : List (HloOp τ sig (Elt F))), Plain op :=
  plain_of ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
    ⟨rfl, rfl, rfl, rfl, rfl, rfl, rfl, rfl, rfl, rfl, rfl, rfl, rfl, rfl, rfl, rfl, rfl, rfl, rfl, rfl, rfl⟩
set_option maxRecDepth 8192 in
theorem scoreOps2_plain : ∀ op ∈ (scoreOps2 : List (HloOp τ sig (Elt F))), Plain op :=
  plain_of ⟨binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub ..⟩
    ⟨rfl, rfl, rfl, rfl, rfl, rfl, rfl, rfl, rfl, rfl, rfl, rfl, rfl⟩
set_option maxRecDepth 8192 in
theorem stepOps2_plain : ∀ op ∈ (stepOps2 : List (HloOp τ sig (Elt F))), Plain op :=
  plain_of ⟨binary_bufs_sub .., binary_bufs_sub .., nullary_bufs_sub .., binary_bufs_sub ..⟩
    ⟨rfl, rfl, rfl, rfl⟩
set_option maxRecDepth 8192 in
theorem tailOps_plain : ∀ op ∈ (tailOps : List (HloOp τ sig (Elt F))), Plain op :=
  plain_of ⟨nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub .., binary_bufs_sub .., unary_bufs_sub .., unary_bufs_sub .., binary_bufs_sub ..⟩
    ⟨rfl, rfl, rfl, rfl, rfl, rfl, rfl, rfl, rfl, rfl, rfl, rfl, rfl, rfl, rfl, rfl, rfl, rfl, rfl⟩

theorem ops_plain (op : HloOp τ sig (Elt F)) (h : op ∈ (ops : List (HloOp τ sig (Elt F)))) : Plain op := by
  rcases List.mem_append.mp h with h | h
  · rcases List.mem_append.mp h with h | h
    · exact scoreOps1_plain op h
    rcases List.mem_append.mp h with h | h
    · exact argOps_plain _ _ op h
    rcases List.mem_append.mp h with h | h
    · exact takeOps_plain _ _ _ op h
    rcases List.mem_append.mp h with h | h
    · exact stepOps1_plain op h
    rcases List.mem_append.mp h with h | h
    · exact scoreOps2_plain op h
    rcases List.mem_append.mp h with h | h
    · exact argOps_plain _ _ op h
    rcases List.mem_append.mp h with h | h
    · exact takeOps_plain _ _ _ op h
    · exact stepOps2_plain op h
  · exact tailOps_plain op h

end Cert.Proof.Ref

end
-- ==== Proof.RefRun.lean ====
/- What the reference program's run leaves in its three result arrays, as the composition of its operations, and that it
   leaves its arguments and every semaphore counter as they were. One definition per step of the mathematics: the
   codebook's squared norms, the scores of a residual against the codebook, the index of the least score, the code
   vectors at given indices, the mean squared difference, the results. -/
module

public import proofs.«01_k».proof.Proof.RefOps

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The scalar zero every sum starts from. -/
abbrev zero : FVec F S_ .f32 := constant S_ .f32 0x00000000#32

/-- The squared norm of each code vector. -/
def codeNorms (cb : FVec F S8192x64 .f32) : FVec F S8192 .f32 :=
  Host.reduceAdd (mulf cb cb) zero reducesTo_S8192x64_S8192_d1 h_S_

/-- The score of every residual vector against every code vector: `|r|² - 2 r·c + |c|²`. -/
def scores (r : FVec F S16x512x64 .f32) (cb : FVec F S8192x64 .f32) (n : FVec F S8192 .f32) : FVec F S16x512x8192 .f32 :=
  addf (subf (broadcastInDim S16x512x8192 ![0, 1, 2] bcast_S16x512x1_S16x512x8192_0_1_2
      (broadcastInDim S16x512x1 ![0, 1] bcast_S16x512_S16x512x1_0_1 (Host.reduceAdd (mulf r r) zero reducesTo_S16x512x64_S16x512_d2 h_S_)))
    (mulf (broadcastInDim S16x512x8192 ![] bcast_S_S16x512x8192 (constant S_ .f32 0x40000000#32))
      (Host.dotGeneral dot_S16x512x64_S8192x64_S16x512x8192_2_1_01_0_n_n none r cb)))
    (broadcastInDim S16x512x8192 ![0, 1, 2] bcast_S1x1x8192_S16x512x8192_0_1_2 (broadcastInDim S1x1x8192 ![2] bcast_S8192_S1x1x8192_2 n))

/-- The index of the least score. -/
def nearest (d : FVec F S16x512x8192 .f32) : IVec S16x512 32 :=
  leastIndex d (iotaInDim S16x512x8192 32 2) (constant S_ .f32 0x7F800000#32) (constantI S_ 32 0#32)

/-- The indices a lookup reads at (an index below zero counts from the end), as a column. -/
def lookupAt (i : IVec S16x512 32) : IVec S16x512x1 32 :=
  broadcastInDim S16x512x1 ![0, 1] bcast_S16x512_S16x512x1_0_1
    (select (cmpi .slt i (broadcastInDim S16x512 ![] bcast_S_S16x512 (constantI S_ 32 0#32)))
      (addi i (broadcastInDim S16x512 ![] bcast_S_S16x512 (constantI S_ 32 8192#32))) i)

/-- Whether those indices lie in the codebook. -/
def inBook (i : IVec S16x512x1 32) : IVec S16x512 1 :=
  Host.reduce IntOp.andi
    (andi (cmpi .sge i (broadcastInDim S16x512x1 ![] bcast_S_S16x512x1 (constantI S_ 32 0#32)))
      (cmpi .sle i (broadcastInDim S16x512x1 ![0, 1, 2] bcast_S1x1x1_S16x512x1_0_1_2
        (broadcastInDim S1x1x1 ![2] bcast_S1_S1x1x1_2 (constantI S1 32 8191#32)))))
    (constantI S_ 1 1#1) reducesTo_S16x512x1_S16x512_d2 h_S_

/-- The code vectors at the indices. -/
def lookup (cb : FVec F S8192x64 .f32) (i : IVec S16x512 32) : FVec F S16x512x64 .f32 :=
  select (broadcastInDim S16x512x64 ![0, 1] bcast_S16x512_S16x512x64_0_1 (inBook (lookupAt i)))
    (Host.gather gather_S8192x64_S16x512x1_S16x512x64_2_0_n_n_0_2_164 cb (lookupAt i))
    (broadcastInDim S16x512x64 ![] bcast_S_S16x512x64 (constant S_ .f32 0x7FC00000#32))

/-- The sum of the squared differences. -/
def sqSum (r q : FVec F S16x512x64 .f32) : FVec F S_ .f32 :=
  Host.reduceAdd (mulf (subf r q) (subf r q)) zero reducesTo_S16x512x64_S_d0_1_2 h_S_

/-- Their mean. -/
def meanSq (r q : FVec F S16x512x64 .f32) : FVec F S_ .f32 := Host.divf (sqSum r q) (constant S_ .f32 0x49000000#32)

/-- One stage's loss added to the losses before it: the commitment loss (with its weight one) and the codebook loss. -/
def addLoss (l : FVec F S_ .f32) (r q : FVec F S16x512x64 .f32) : FVec F S_ .f32 :=
  addf (addf l (mulf (constant S_ .f32 0x3F800000#32) (meanSq r q))) (meanSq r q)

/-- One stage's code vectors added to those before it (passed straight through the residual). -/
def addCode (s r q : FVec F S16x512x64 .f32) : FVec F S16x512x64 .f32 := addf s (addf r (subf q r))

/-- An array of indices as a column. -/
abbrev column (i : IVec S16x512 32) : IVec S16x512x1 32 := broadcastInDim S16x512x1 ![0, 1] bcast_S16x512_S16x512x1_0_1 i

section Windows

variable (V : Valuation τ sig (Elt F))

/-! Each stretch's results, from the contents before it; and the buffers read later that it leaves alone. -/

set_option maxRecDepth 8192
set_option maxHeartbeats 2000000

theorem scoreOps1_v1 : after scoreOps1 V (no_index (Proc.devRef .tc main_v1)) = codeNorms (V (Proc.devRef .tc main_arg1)) := by
  simp only [scoreOps1]; after_results_simp <;> rfl

theorem scoreOps1_v2 : after scoreOps1 V (no_index (Proc.devRef .tc main_v2)) = broadcastInDim S16x512x64 ![] bcast_S_S16x512x64 zero := by
  simp only [scoreOps1]; after_results_simp <;> rfl

theorem scoreOps1_v13 : after scoreOps1 V (no_index (Proc.devRef .tc main_v13)) = scores (V (Proc.devRef .tc main_arg0)) (V (Proc.devRef .tc main_arg1)) (codeNorms (V (Proc.devRef .tc main_arg1))) := by
  simp only [scoreOps1]; after_results_simp <;> rfl

theorem scoreOps1_keep :
    after scoreOps1 V (no_index (Proc.devRef .tc main_arg0)) = V (Proc.devRef .tc main_arg0)
    ∧ after scoreOps1 V (no_index (Proc.devRef .tc main_arg1)) = V (Proc.devRef .tc main_arg1) := by
  refine ⟨?_, ?_⟩ <;>
  · simp only [scoreOps1]; after_results_simp

theorem argOps1_v14 : after argOps1 V (no_index (Proc.devRef .tc main_v14)) = nearest (V (Proc.devRef .tc main_v13)) := by
  simp only [argOps1, argOps, main_call0, TRef.nullary, TRef.quaternary, TRef.toBuf, TRef.ofBuf, cast_eq]; after_results_simp <;> rfl

theorem argOps1_keep :
    after argOps1 V (no_index (Proc.devRef .tc main_arg0)) = V (Proc.devRef .tc main_arg0)
    ∧ after argOps1 V (no_index (Proc.devRef .tc main_arg1)) = V (Proc.devRef .tc main_arg1)
    ∧ after argOps1 V (no_index (Proc.devRef .tc main_v1)) = V (Proc.devRef .tc main_v1)
    ∧ after argOps1 V (no_index (Proc.devRef .tc main_v2)) = V (Proc.devRef .tc main_v2) := by
  refine ⟨?_, ?_, ?_, ?_⟩ <;>
  · simp only [argOps1, argOps, main_call0, TRef.nullary, TRef.quaternary, TRef.toBuf, TRef.ofBuf, cast_eq]; after_results_simp

theorem takeOps1_v15 : after takeOps1 V (no_index (Proc.devRef .tc main_v15)) = lookup (V (Proc.devRef .tc main_arg1)) (V (Proc.devRef .tc main_v14)) := by
  simp only [takeOps1, takeOps, main_call1, main_call1_call0, TRef.nullary, TRef.unary, TRef.binary, TRef.ternary, TRef.toBuf, TRef.ofBuf, cast_eq]; after_results_simp <;> rfl

theorem takeOps1_keep :
    after takeOps1 V (no_index (Proc.devRef .tc main_arg0)) = V (Proc.devRef .tc main_arg0)
    ∧ after takeOps1 V (no_index (Proc.devRef .tc main_arg1)) = V (Proc.devRef .tc main_arg1)
    ∧ after takeOps1 V (no_index (Proc.devRef .tc main_v1)) = V (Proc.devRef .tc main_v1)
    ∧ after takeOps1 V (no_index (Proc.devRef .tc main_v2)) = V (Proc.devRef .tc main_v2)
    ∧ after takeOps1 V (no_index (Proc.devRef .tc main_v14)) = V (Proc.devRef .tc main_v14) := by
  refine ⟨?_, ?_, ?_, ?_, ?_⟩ <;>
  · simp only [takeOps1, takeOps, main_call1, main_call1_call0, TRef.nullary, TRef.unary, TRef.binary, TRef.ternary, TRef.toBuf, TRef.ofBuf, cast_eq]; after_results_simp

theorem stepOps1_v26 : after stepOps1 V (no_index (Proc.devRef .tc main_v26)) = addLoss zero (V (Proc.devRef .tc main_arg0)) (V (Proc.devRef .tc main_v15)) := by
  simp only [stepOps1]; after_results_simp <;> rfl

theorem stepOps1_v29 : after stepOps1 V (no_index (Proc.devRef .tc main_v29)) = addCode (V (Proc.devRef .tc main_v2)) (V (Proc.devRef .tc main_arg0)) (V (Proc.devRef .tc main_v15)) := by
  simp only [stepOps1]; after_results_simp <;> rfl

theorem stepOps1_v30 : after stepOps1 V (no_index (Proc.devRef .tc main_v30)) = subf (V (Proc.devRef .tc main_arg0)) (V (Proc.devRef .tc main_v15)) := by
  simp only [stepOps1]; after_results_simp <;> rfl

theorem stepOps1_keep :
    after stepOps1 V (no_index (Proc.devRef .tc main_arg0)) = V (Proc.devRef .tc main_arg0)
    ∧ after stepOps1 V (no_index (Proc.devRef .tc main_arg1)) = V (Proc.devRef .tc main_arg1)
    ∧ after stepOps1 V (no_index (Proc.devRef .tc main_v1)) = V (Proc.devRef .tc main_v1)
    ∧ after stepOps1 V (no_index (Proc.devRef .tc main_v14)) = V (Proc.devRef .tc main_v14) := by
  refine ⟨?_, ?_, ?_, ?_⟩ <;>
  · simp only [stepOps1]; after_results_simp

theorem scoreOps2_v41 : after scoreOps2 V (no_index (Proc.devRef .tc main_v41)) = scores (V (Proc.devRef .tc main_v30)) (V (Proc.devRef .tc main_arg1)) (V (Proc.devRef .tc main_v1)) := by
  simp only [scoreOps2]; after_results_simp <;> rfl

theorem scoreOps2_keep :
    after scoreOps2 V (no_index (Proc.devRef .tc main_arg0)) = V (Proc.devRef .tc main_arg0)
    ∧ after scoreOps2 V (no_index (Proc.devRef .tc main_arg1)) = V (Proc.devRef .tc main_arg1)
    ∧ after scoreOps2 V (no_index (Proc.devRef .tc main_v14)) = V (Proc.devRef .tc main_v14)
    ∧ after scoreOps2 V (no_index (Proc.devRef .tc main_v26)) = V (Proc.devRef .tc main_v26)
    ∧ after scoreOps2 V (no_index (Proc.devRef .tc main_v29)) = V (Proc.devRef .tc main_v29)
    ∧ after scoreOps2 V (no_index (Proc.devRef .tc main_v30)) = V (Proc.devRef .tc main_v30) := by
  refine ⟨?_, ?_, ?_, ?_, ?_, ?_⟩ <;>
  · simp only [scoreOps2]; after_results_simp

theorem argOps2_v42 : after argOps2 V (no_index (Proc.devRef .tc main_v42)) = nearest (V (Proc.devRef .tc main_v41)) := by
  simp only [argOps2, argOps, main_call2, TRef.nullary, TRef.quaternary, TRef.toBuf, TRef.ofBuf, cast_eq]; after_results_simp <;> rfl

theorem argOps2_keep :
    after argOps2 V (no_index (Proc.devRef .tc main_arg0)) = V (Proc.devRef .tc main_arg0)
    ∧ after argOps2 V (no_index (Proc.devRef .tc main_arg1)) = V (Proc.devRef .tc main_arg1)
    ∧ after argOps2 V (no_index (Proc.devRef .tc main_v14)) = V (Proc.devRef .tc main_v14)
    ∧ after argOps2 V (no_index (Proc.devRef .tc main_v26)) = V (Proc.devRef .tc main_v26)
    ∧ after argOps2 V (no_index (Proc.devRef .tc main_v29)) = V (Proc.devRef .tc main_v29)
    ∧ after argOps2 V (no_index (Proc.devRef .tc main_v30)) = V (Proc.devRef .tc main_v30) := by
  refine ⟨?_, ?_, ?_, ?_, ?_, ?_⟩ <;>
  · simp only [argOps2, argOps, main_call2, TRef.nullary, TRef.quaternary, TRef.toBuf, TRef.ofBuf, cast_eq]; after_results_simp

theorem takeOps2_v43 : after takeOps2 V (no_index (Proc.devRef .tc main_v43)) = lookup (V (Proc.devRef .tc main_arg1)) (V (Proc.devRef .tc main_v42)) := by
  simp only [takeOps2, takeOps, main_call3, main_call3_call0, TRef.nullary, TRef.unary, TRef.binary, TRef.ternary, TRef.toBuf, TRef.ofBuf, cast_eq]; after_results_simp <;> rfl

theorem takeOps2_keep :
    after takeOps2 V (no_index (Proc.devRef .tc main_arg0)) = V (Proc.devRef .tc main_arg0)
    ∧ after takeOps2 V (no_index (Proc.devRef .tc main_arg1)) = V (Proc.devRef .tc main_arg1)
    ∧ after takeOps2 V (no_index (Proc.devRef .tc main_v14)) = V (Proc.devRef .tc main_v14)
    ∧ after takeOps2 V (no_index (Proc.devRef .tc main_v26)) = V (Proc.devRef .tc main_v26)
    ∧ after takeOps2 V (no_index (Proc.devRef .tc main_v29)) = V (Proc.devRef .tc main_v29)
    ∧ after takeOps2 V (no_index (Proc.devRef .tc main_v30)) = V (Proc.devRef .tc main_v30)
    ∧ after takeOps2 V (no_index (Proc.devRef .tc main_v42)) = V (Proc.devRef .tc main_v42) := by
  refine ⟨?_, ?_, ?_, ?_, ?_, ?_, ?_⟩ <;>
  · simp only [takeOps2, takeOps, main_call3, main_call3_call0, TRef.nullary, TRef.unary, TRef.binary, TRef.ternary, TRef.toBuf, TRef.ofBuf, cast_eq]; after_results_simp

theorem stepOps2_v46 : after stepOps2 V (no_index (Proc.devRef .tc main_v46)) = sqSum (V (Proc.devRef .tc main_v30)) (V (Proc.devRef .tc main_v43)) := by
  simp only [stepOps2]; after_results_simp <;> rfl

theorem stepOps2_keep :
    after stepOps2 V (no_index (Proc.devRef .tc main_arg0)) = V (Proc.devRef .tc main_arg0)
    ∧ after stepOps2 V (no_index (Proc.devRef .tc main_arg1)) = V (Proc.devRef .tc main_arg1)
    ∧ after stepOps2 V (no_index (Proc.devRef .tc main_v14)) = V (Proc.devRef .tc main_v14)
    ∧ after stepOps2 V (no_index (Proc.devRef .tc main_v26)) = V (Proc.devRef .tc main_v26)
    ∧ after stepOps2 V (no_index (Proc.devRef .tc main_v29)) = V (Proc.devRef .tc main_v29)
    ∧ after stepOps2 V (no_index (Proc.devRef .tc main_v30)) = V (Proc.devRef .tc main_v30)
    ∧ after stepOps2 V (no_index (Proc.devRef .tc main_v42)) = V (Proc.devRef .tc main_v42)
    ∧ after stepOps2 V (no_index (Proc.devRef .tc main_v43)) = V (Proc.devRef .tc main_v43) := by
  refine ⟨?_, ?_, ?_, ?_, ?_, ?_, ?_, ?_⟩ <;>
  · simp only [stepOps2]; after_results_simp

theorem tailOps_v57 : after tailOps V (no_index (Proc.devRef .tc main_v57)) = addCode (V (Proc.devRef .tc main_v29)) (V (Proc.devRef .tc main_v30)) (V (Proc.devRef .tc main_v43)) := by
  simp only [tailOps]; after_results_simp <;> rfl

theorem tailOps_v61 : after tailOps V (no_index (Proc.devRef .tc main_v61)) = pairUp (column (V (Proc.devRef .tc main_v14))) (column (V (Proc.devRef .tc main_v42))) := by
  simp only [tailOps]; after_results_simp <;> rfl

theorem tailOps_v54 : after tailOps V (no_index (Proc.devRef .tc main_v54)) = addf (addf (V (Proc.devRef .tc main_v26)) (mulf (constant S_ .f32 0x3F800000#32) (Host.divf (V (Proc.devRef .tc main_v46)) (constant S_ .f32 0x49000000#32)))) (meanSq (V (Proc.devRef .tc main_v30)) (V (Proc.devRef .tc main_v43))) := by
  simp only [tailOps]; after_results_simp <;> rfl

theorem tailOps_keep :
    after tailOps V (no_index (Proc.devRef .tc main_arg0)) = V (Proc.devRef .tc main_arg0)
    ∧ after tailOps V (no_index (Proc.devRef .tc main_arg1)) = V (Proc.devRef .tc main_arg1) := by
  refine ⟨?_, ?_⟩ <;>
  · simp only [tailOps]; after_results_simp

end Windows

/-! The results, as functions of the two arguments `z` and `cb`. -/

section Results

variable (z : FVec F S16x512x64 .f32) (cb : FVec F S8192x64 .f32)

/-- The first stage's indices, code vectors and residual. -/
def index1 : IVec S16x512 32 := nearest (scores z cb (codeNorms cb))
def code1 : FVec F S16x512x64 .f32 := lookup cb (index1 z cb)
def resid : FVec F S16x512x64 .f32 := subf z (code1 z cb)
/-- The second stage's indices and code vectors. -/
def index2 : IVec S16x512 32 := nearest (scores (resid z cb) cb (codeNorms cb))
def code2 : FVec F S16x512x64 .f32 := lookup cb (index2 z cb)
/-- The three results: the quantized array, the indices, the loss. -/
def quantized : FVec F S16x512x64 .f32 :=
  addCode (addCode (broadcastInDim S16x512x64 ![] bcast_S_S16x512x64 zero) z (code1 z cb)) (resid z cb) (code2 z cb)
def indices : IVec S16x512x2 32 := pairUp (column (index1 z cb)) (column (index2 z cb))
def loss : FVec F S_ .f32 := addLoss (addLoss zero z (code1 z cb)) (resid z cb) (code2 z cb)

end Results

section After

variable (V : Valuation τ sig (Elt F))

set_option maxRecDepth 8192
set_option maxHeartbeats 2000000

/-- The stretches one after another. -/
theorem after_ops : after ops V = after tailOps (after stepOps2 (after takeOps2 (after argOps2 (after scoreOps2 (after stepOps1
    (after takeOps1 (after argOps1 (after scoreOps1 V)))))))) := by
  simp only [ops, ops0, after_append]

theorem after_v57 : after ops V (Proc.devRef .tc main_v57) = quantized (V (Proc.devRef .tc main_arg0)) (V (Proc.devRef .tc main_arg1)) := by
  rw [after_ops]
  simp only [scoreOps1_v1, scoreOps1_v2, scoreOps1_v13, scoreOps1_keep, argOps1_v14, argOps1_keep, takeOps1_v15, takeOps1_keep,
    stepOps1_v26, stepOps1_v29, stepOps1_v30, stepOps1_keep, scoreOps2_v41, scoreOps2_keep, argOps2_v42, argOps2_keep,
    takeOps2_v43, takeOps2_keep, stepOps2_v46, stepOps2_keep, tailOps_v57, tailOps_v61, tailOps_v54, tailOps_keep]; rfl
theorem after_v61 : after ops V (Proc.devRef .tc main_v61) = indices (V (Proc.devRef .tc main_arg0)) (V (Proc.devRef .tc main_arg1)) := by
  rw [after_ops]
  simp only [scoreOps1_v1, scoreOps1_v2, scoreOps1_v13, scoreOps1_keep, argOps1_v14, argOps1_keep, takeOps1_v15, takeOps1_keep,
    stepOps1_v26, stepOps1_v29, stepOps1_v30, stepOps1_keep, scoreOps2_v41, scoreOps2_keep, argOps2_v42, argOps2_keep,
    takeOps2_v43, takeOps2_keep, stepOps2_v46, stepOps2_keep, tailOps_v57, tailOps_v61, tailOps_v54, tailOps_keep]; rfl
theorem after_v54 : after ops V (Proc.devRef .tc main_v54) = loss (V (Proc.devRef .tc main_arg0)) (V (Proc.devRef .tc main_arg1)) := by
  rw [after_ops]
  simp only [scoreOps1_v1, scoreOps1_v2, scoreOps1_v13, scoreOps1_keep, argOps1_v14, argOps1_keep, takeOps1_v15, takeOps1_keep,
    stepOps1_v26, stepOps1_v29, stepOps1_v30, stepOps1_keep, scoreOps2_v41, scoreOps2_keep, argOps2_v42, argOps2_keep,
    takeOps2_v43, takeOps2_keep, stepOps2_v46, stepOps2_keep, tailOps_v57, tailOps_v61, tailOps_v54, tailOps_keep]; rfl
theorem after_arg0 : after ops V (Proc.devRef .tc main_arg0) = V (Proc.devRef .tc main_arg0) := by
  rw [after_ops]
  simp only [scoreOps1_keep, argOps1_keep, takeOps1_keep, stepOps1_keep, scoreOps2_keep, argOps2_keep, takeOps2_keep, stepOps2_keep, tailOps_keep]
theorem after_arg1 : after ops V (Proc.devRef .tc main_arg1) = V (Proc.devRef .tc main_arg1) := by
  rw [after_ops]
  simp only [scoreOps1_keep, argOps1_keep, takeOps1_keep, stepOps1_keep, scoreOps2_keep, argOps2_keep, takeOps2_keep, stepOps2_keep, tailOps_keep]

end After

variable (m : (ℓ : Loc nD τ sig) → Buf (Elt F) ℓ) (ρ : Dev nD → PrngReg)

/-- Every weakly fair execution of the reference from any memory with zero counters terminates with the three results at
    `quantized`, `indices` and `loss` of the arguments, and with the arguments as they were. -/
theorem run : θ_run defs (onTc (τ := τ) (main (F := F))) ⟨m, fun _ => 0, ρ⟩ fun r => ∀ c : Dev nD,
      r.2.mem ((c.tc : Thread nD τ).loc main_v57) = quantized (m ((c.tc : Thread nD τ).loc main_arg0)) (m ((c.tc : Thread nD τ).loc main_arg1))
      ∧ r.2.mem ((c.tc : Thread nD τ).loc main_v61) = indices (m ((c.tc : Thread nD τ).loc main_arg0)) (m ((c.tc : Thread nD τ).loc main_arg1))
      ∧ r.2.mem ((c.tc : Thread nD τ).loc main_v54) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (after_v57 (launchContents m c)), (h c main_v61).trans (after_v61 (launchContents m c)),
      (h c main_v54).trans (after_v54 (launchContents m c)), (h c main_arg0).trans (after_arg0 (launchContents m c)),
      (h c main_arg1).trans (after_arg1 (launchContents m c))⟩)
    (run_seq scopedRefs_eq scopedSems_eq defs main (fun _ => ops) main_eq
      (fun _ => List.forall_iff_forall_mem.mpr fun op hop => (ops_plain op hop).1) m ρ fun _ op hop => (ops_plain op hop).2)

/-- The reference declares no semaphore, so its counters are zero at any state. -/
theorem sem_zero (s : MemSt nD τ sig (Elt F)) : s.sem = fun _ => 0 := by
  funext g
  rcases g with ⟨_, s | s⟩ <;> exact s.elim0

/-- The reference leaves its arguments and every semaphore counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, sem_zero r.2⟩) (run m ρ)

end Cert.Proof.Ref

end
-- ==== Proof.Steps.lean ====
/- What one grid point of the kernel leaves in its output blocks and its scratch, in the kernel's own operations: at the
   first point the scratch and the loss accumulator are set from the codebook, at every point the block's two stages run
   from the scratch. By induction over the grid the scratch is the same at every point, and the loss block is a fold. -/
module

public import proofs.«01_k».proof.Proof.RefRun
public import proofs.«01_k».proof.Proof.Gen.KernelIdeal.Frame
public import Idealize.ShloMosaic.Lib.Pipeline.Value
public import Idealize.ShloMosaic.Lib.Pipeline.ValueKit.Acc

@[expose] public section

noncomputable section

namespace Cert.Proof.Ker

open Cert.KernelIdeal Cert.KernelIdeal.Gen Idealize.ShloMosaic Idealize.ShloMosaic.TcCoe Idealize.SL.Sem
open Idealize.ShloMosaic.Pipeline (Dat)

variable {F : FTy → Type} [FloatOps F]

/-! ## The block's values -/

section Block

variable (x : Vec F S512x64 .f32) (b : Vec F S8192x64 .bf16) (w : Vec F S8192x192 .bf16) (n : Vec F S1x8192 .f32)

/-- The sum of the two stages' code vectors. -/
def blockQ : Vec F S512x64 .f32 := k0_pay14 b w n (k0_pay8 x b w n) (k0_pay10 x b w n) (k0_pay11 (F := F))
/-- The two stages' indices. -/
def blockI : Vec F S1x2x512 .i32 := k0_pay15 b n (k0_pay7 x b n) (k0_pay10 x b w n) (k0_pay11 (F := F))
/-- The loss block after the two stages' losses are added to it. -/
def blockL (l : Vec F S1x1 .f32) : Vec F S1x1 .f32 :=
  k0_pay16 b w n (k0_pay9 x b w n) (k0_pay10 x b w n) (k0_pay11 (F := F)) l

end Block

section Cases

variable (c : Dev nD) (i : grid0.Coords) (arg1 : Memref sig .tc .vmem S512x64 .f32) (harg1 : arg1.IsWhole) (arg2 : Memref sig .tc .vmem S8192x64 .f32) (harg2 : arg2.IsWhole) (arg3 : Memref sig .tc .vmem S512x64 .f32) (harg3 : arg3.IsWhole) (arg4 : Memref sig .tc .vmem S1x2x512 .i32) (harg4 : arg4.IsWhole) (arg5 : Memref sig .tc .vmem S1x1 .f32) (harg5 : arg5.IsWhole) (arg6 : Memref sig .tc .vmem S8192x64 .bf16) (harg6 : arg6.IsWhole) (arg7 : Memref sig .tc .vmem S8192x192 .bf16) (harg7 : arg7.IsWhole) (arg8 : Memref sig .tc .vmem S1x8192 .f32) (harg8 : arg8.IsWhole)
  (x0 : Vec F S512x64 .f32) (x1 : Vec F S8192x64 .f32) (xo4 : Vec F S1x1 .f32) (xs0 : Vec F S8192x64 .bf16) (xs1 : Vec F S8192x192 .bf16) (xs2 : Vec F S1x8192 .f32)

/-- The first point: the code vectors, from the scratch it has just set. -/
theorem out_A_2 (h : cond0_0 i) :
    out0_A_2 c i arg1 harg1 arg2 harg2 arg3 harg3 arg4 harg4 arg5 harg5 arg6 harg6 arg7 harg7 arg8 harg8 h x0 x1 = blockQ x0 (k0_pay2 x1) (k0_pay3 x1) (k0_pay4 x1) := by
  frame_out
  try rfl

/-- The first point: the indices, from the scratch it has just set. -/
theorem out_A_3 (h : cond0_0 i) :
    out0_A_3 c i arg1 harg1 arg2 harg2 arg3 harg3 arg4 harg4 arg5 harg5 arg6 harg6 arg7 harg7 arg8 harg8 h x0 x1 = blockI x0 (k0_pay2 x1) (k0_pay3 x1) (k0_pay4 x1) := by
  frame_out
  try rfl

/-- The first point: the loss, from zero. -/
theorem out_A_4 (h : cond0_0 i) :
    out0_A_4 c i arg1 harg1 arg2 harg2 arg3 harg3 arg4 harg4 arg5 harg5 arg6 harg6 arg7 harg7 arg8 harg8 h x0 x1 = blockL x0 (k0_pay2 x1) (k0_pay3 x1) (k0_pay4 x1) (k0_pay5 (F := F)) := by
  frame_out
  try rfl

/-- The first point: the codebook rounded. -/
theorem sout_A_0 (h : cond0_0 i) :
    sout0_A_0 c i arg1 harg1 arg2 harg2 arg3 harg3 arg4 harg4 arg5 harg5 arg6 harg6 arg7 harg7 arg8 harg8 h x0 x1 = k0_pay2 x1 := by
  frame_out
  try rfl

/-- The first point: the codebook in three parts. -/
theorem sout_A_1 (h : cond0_0 i) :
    sout0_A_1 c i arg1 harg1 arg2 harg2 arg3 harg3 arg4 harg4 arg5 harg5 arg6 harg6 arg7 harg7 arg8 harg8 h x0 x1 = k0_pay3 x1 := by
  frame_out
  try rfl

/-- The first point: the squared norms. -/
theorem sout_A_2 (h : cond0_0 i) :
    sout0_A_2 c i arg1 harg1 arg2 harg2 arg3 harg3 arg4 harg4 arg5 harg5 arg6 harg6 arg7 harg7 arg8 harg8 h x0 x1 = k0_pay4 x1 := by
  frame_out
  try rfl

/-- A later point: the code vectors, from the scratch it finds. -/
theorem out_B_2 (h : ¬cond0_0 i) :
    out0_B_2 c i arg1 harg1 arg2 harg2 arg3 harg3 arg4 harg4 arg5 harg5 arg6 harg6 arg7 harg7 arg8 harg8 h x0 x1 xo4 xs0 xs1 xs2 = blockQ x0 xs0 xs1 xs2 := by
  frame_out
  try rfl

/-- A later point: the indices, from the scratch it finds. -/
theorem out_B_3 (h : ¬cond0_0 i) :
    out0_B_3 c i arg1 harg1 arg2 harg2 arg3 harg3 arg4 harg4 arg5 harg5 arg6 harg6 arg7 harg7 arg8 harg8 h x0 x1 xo4 xs0 xs1 xs2 = blockI x0 xs0 xs1 xs2 := by
  frame_out
  try rfl

/-- A later point: the loss, from the loss block it finds. -/
theorem out_B_4 (h : ¬cond0_0 i) :
    out0_B_4 c i arg1 harg1 arg2 harg2 arg3 harg3 arg4 harg4 arg5 harg5 arg6 harg6 arg7 harg7 arg8 harg8 h x0 x1 xo4 xs0 xs1 xs2 = blockL x0 xs0 xs1 xs2 xo4 := by
  frame_out
  try rfl

end Cases

end Cert.Proof.Ker

end
-- ==== Proof.Grid.lean ====
/- The grid of the kernel: what each input block is (batch `t` of `z`, and the whole codebook), what the output blocks hold
   after every point, and so what the three output arrays hold after the run. -/
module

public import proofs.«01_k».proof.Proof.Steps
public import Idealize.ShloMosaic.Lib.Pipeline.ValueKit.Geometry
public import Idealize.ShloMosaic.Lib.ValueIdx

@[expose] public section

noncomputable section

namespace Cert.Proof.Ker

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## What the grid computes, as functions of the two arguments -/

section Results

variable (z : Vec F S16x512x64 .f32) (cb : Vec F S8192x64 .f32)

/-- Batch `b` of `z`: the 512 rows one grid point works on. -/
def batch (b : Fin 16) : Vec F S512x64 .f32 := fun y => z (ix3 b (y 0) (y 1))

/-- The two stages' code vectors, summed, for every row of every batch. -/
def quantized : Vec F S16x512x64 .f32 := fun i =>
  blockQ (batch z (i 0)) (k0_pay2 cb) (k0_pay3 cb) (k0_pay4 cb) (ix2 (i 1) (i 2))

/-- The two stages' indices, for every row of every batch, the stage before the row. -/
def indices : Vec F S16x2x512 .i32 := fun i =>
  blockI (batch z (i 0)) (k0_pay2 cb) (k0_pay3 cb) (k0_pay4 cb) (ix3 (0 : Fin 1) (i 1) (i 2))

/-- The loss block after the first `n` points. -/
def lossAfter : ℕ → Vec F S1x1 .f32
  | 0 => k0_pay5
  | n + 1 => blockL (batch z (Fin.ofNat 16 n)) (k0_pay2 cb) (k0_pay3 cb) (k0_pay4 cb) (lossAfter n)

end Results

/-! ## Rows of the flattened argument -/

/-- The place of an index of a two-dimensional array among all its elements, row after row. -/
theorem place2 {a b : ℕ} (x : (⟨2, ![a, b]⟩ : Shape).Idx) :
    (Shape.rowMajor _ x).val = (x 0).val * b + (x 1).val := by
  show (Shape.rowMajorPi ![a, b] x).val = _
  rw [Shape.rowMajorPi_succ_val, Shape.rowMajorPi_succ_val]
  simp

/-- The place of an index of a three-dimensional array among all its elements. -/
theorem place3 {a b c : ℕ} (x : (⟨3, ![a, b, c]⟩ : Shape).Idx) :
    (Shape.rowMajor _ x).val = ((x 0).val * b + (x 1).val) * c + (x 2).val := by
  show (Shape.rowMajorPi ![a, b, c] x).val = _
  rw [Shape.rowMajorPi_succ_val, Shape.rowMajorPi_succ_val, Shape.rowMajorPi_succ_val]
  simp [Fin.prod_univ_succ]
  ring

/-- Row `512 * b + s` of the flattened array is row `s` of batch `b`. -/
theorem flat_apply (X : Vec F S16x512x64 .f32) (i : S8192x64.Idx) (b : Fin 16) (s : Fin 512) (d : Fin 64)
    (h0 : (i 0).val = b.val * 512 + s.val) (h1 : (i 1).val = d.val) :
    shapeCast S8192x64 X shapeCasts_S16x512x64_S8192x64 i = X (ix3 b s d) := by
  refine congrArg X (Shape.reshapeEquiv_eq_of_rowMajor _ ?_)
  refine (place3 _).trans (Eq.trans ?_ (place2 i).symm)
  show (b.val * 512 + s.val) * 64 + d.val = _
  rw [h0, h1]

/-! ## The input blocks -/

variable (m : ∀ ℓ : Loc nD τ sig, Buf (Elt F) ℓ)

/-- The first argument, on the device `c`. -/
abbrev argZ (c : Dev nD) : Vec F S16x512x64 .f32 := m ((c.tc : Thread nD τ).loc main_arg0)
/-- The second argument, on the device `c`. -/
abbrev argC (c : Dev nD) : Vec F S8192x64 .f32 := m ((c.tc : Thread nD τ).loc main_arg1)

/-- The pipeline's first array is the flattened first argument. -/
theorem V_flat (c : Dev nD) : V m c main_v0 = shapeCast S8192x64 (argZ m c) shapeCasts_S16x512x64_S8192x64 := by
  show StableHlo.after hostOps0 _ (Proc.devRef .tc main_v0) = _
  after_results
  rfl

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![t.val, 0] :=
  (by decide +kernel : ∀ t : Fin grid0.N, win0_2.index t = ![t.val, 0])
theorem index_3 : ∀ t : Fin cfg0.N, win0_3.index t = ![t.val, 0, 0] :=
  (by decide +kernel : ∀ t : Fin grid0.N, win0_3.index t = ![t.val, 0, 0])

/-- The codebook's block is the codebook, at every point. -/
theorem block_1 (c : Dev nD) (t : Fin cfg0.N) : iblk m c 1 t = argC m c := by
  funext y
  blk_simp [iblk]
  refine (congrFun (V_main_arg1 m c) _).trans (congrArg (argC m c) ?_)
  blk_ext [index_1]

/-- The first input block at point `t` is batch `t`. -/
theorem block_0 (c : Dev nD) (t : Fin cfg0.N) : iblk m c 0 t = batch (argZ m c) (Fin.ofNat 16 t.val) := by
  funext y
  blk_simp [iblk]
  have hN : cfg0.N = 16 := N_0
  refine (congrFun (V_flat m c) _).trans (flat_apply (argZ m c) _ (Fin.ofNat 16 t.val) (y 0) (y 1) ?_ ?_)
  · blk_simp [index_0]
    have e : t.val % 16 = t.val := Nat.mod_eq_of_lt (hN ▸ t.isLt)
    simp [Fin.ofNat, e]
  · blk_simp [index_0]

/-! ## The output blocks after each point -/

/-- After point `n` the scratch holds what the first point made of the codebook, and the loss block the losses of the
    first `n + 1` batches. -/
theorem outs_after (c : Dev nD) (n : ℕ) (hn : n < cfg0.N) :
    (outsAt0 m c n hn).2.2 = (lossAfter (argZ m c) (argC m c) (n + 1), k0_pay2 (argC m c), k0_pay3 (argC m c), k0_pay4 (argC m c)) := by
  have hN : cfg0.N = 16 := N_0
  induction n with
  | zero =>
    rw [outsAt0_A m c ⟨0, hn⟩ rfl]
    simp only [out_A_4, sout_A_0, sout_A_1, sout_A_2, block_0, block_1]
    rfl
  | succ n ih =>
    have ih := ih (by omega)
    rw [outsAt0_B m c ⟨n + 1, hn⟩ (by show ¬(n + 1) % 16 = 0; omega)]
    simp only [Nat.add_sub_cancel, ih, out_B_4, block_0, block_1]
    rfl

/-- After point `t` the first output block holds the code vectors of batch `t`. -/
theorem out_2 (c : Dev nD) (t : Fin cfg0.N) :
    (outsAt0 m c t.val t.isLt).1 = blockQ (batch (argZ m c) (Fin.ofNat 16 t.val)) (k0_pay2 (argC m c)) (k0_pay3 (argC m c)) (k0_pay4 (argC m c)) := by
  by_cases h0 : t.val % 16 = 0
  · rw [outsAt0_A m c t h0]
    simp only [out_A_2, block_0, block_1]
  · rw [outsAt0_B m c t h0]
    simp only [out_B_2, block_0, block_1, outs_after]

/-- After point `t` the second output block holds the indices of batch `t`. -/
theorem out_3 (c : Dev nD) (t : Fin cfg0.N) :
    (outsAt0 m c t.val t.isLt).2.1 = blockI (batch (argZ m c) (Fin.ofNat 16 t.val)) (k0_pay2 (argC m c)) (k0_pay3 (argC m c)) (k0_pay4 (argC m c)) := by
  by_cases h0 : t.val % 16 = 0
  · rw [outsAt0_A m c t h0]
    simp only [out_A_3, block_0, block_1]
  · rw [outsAt0_B m c t h0]
    simp only [out_B_3, block_0, block_1, outs_after]

/-! ## The output arrays after the run -/

/-- The first output array holds the code vectors, batch after batch. -/
theorem array_2 (c : Dev nD) :
    (dats m 0 c).arrAt 2 cfg0.N = shapeCast S8192x64 (quantized (argZ m c) (argC m c)) shapeCasts_S16x512x64_S8192x64 := by
  have hN : cfg0.N = 16 := N_0
  refine (dats m 0 c).arrAt_eq_of_covers 2 _ (by decide +kernel) fun t hf y => ?_
  blk_simp
  rw [after0_2, out_2]
  refine Eq.trans ?_ (flat_apply _ _ (Fin.ofNat 16 t.val) (y 0) (y 1) ?_ ?_).symm
  · exact congrArg _ (eq_ix2 y)
  · blk_simp [index_2]
    have e : t.val % 16 = t.val := Nat.mod_eq_of_lt (hN ▸ t.isLt)
    simp [Fin.ofNat, e]
  · blk_simp [index_2]

/-- The second output array holds the indices. -/
theorem array_3 (c : Dev nD) :
    (dats m 0 c).arrAt 3 cfg0.N = indices (argZ m c) (argC m c) := by
  have hN : cfg0.N = 16 := N_0
  refine (dats m 0 c).arrAt_eq_of_covers 3 _ (by decide +kernel) fun t hf y => ?_
  blk_simp
  rw [after0_3, out_3]
  have e : t.val % 16 = t.val := Nat.mod_eq_of_lt (hN ▸ t.isLt)
  have h : (win0_3.blk t).view.emb y = ix3 (Fin.ofNat 16 t.val) (y 1) (y 2) := by
    blk_ext [index_3]
    exact e.symm
  rw [h]
  refine congrArg (blockI (batch (argZ m c) (Fin.ofNat 16 t.val)) (k0_pay2 (argC m c)) (k0_pay3 (argC m c)) (k0_pay4 (argC m c))) ?_
  refine (eq_ix3 y).trans ?_
  have h0 : y 0 = (0 : Fin 1) := Subsingleton.elim (α := Fin 1) _ _
  rw [h0]
  rfl

/-- The last point of the grid. -/
def last : Fin cfg0.N := ⟨15, by decide⟩

/-- The third output array holds the losses of all the batches, added up. -/
theorem array_4 (c : Dev nD) :
    (dats m 0 c).arrAt 4 cfg0.N = lossAfter (argZ m c) (argC m c) 16 := by
  have hN : cfg0.N = 16 := N_0
  have hl : (cfg0.win 4).WholeAt last := by decide +kernel
  refine (dats m 0 c).arrAt_eq_of_after_last 4 last hl _ fun j => ?_
  refine (congrFun (after0_4 m c last) _).trans ?_
  rw [outs_after]
  rfl

end Cert.Proof.Ker

end
-- ==== Proof.KerRun.lean ====
/- The kernel's run: after the grid, the host's operations give the three results from the three output arrays. -/
module

public import proofs.«01_k».proof.Proof.Grid
public import Idealize.ShloMosaic.Lib.StableHlo.Run

@[expose] public section

noncomputable section

namespace Cert.Proof.Ker

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

section Results

variable (z : Vec F S16x512x64 .f32) (cb : Vec F S8192x64 .f32)

/-- The indices with the row before the stage, as the host returns them. -/
def indicesByRow : Vec F S16x512x2 .i32 :=
  transpose S16x512x2 [0, 2, 1] (indices z cb) transposes_S16x2x512_S16x512x2_0_2_1

/-- The loss: the sum over the grid, scaled by `2 / (16 * 512 * 64)`. -/
def loss : Vec F S_ .f32 :=
  mulf (shapeCast S_ (lossAfter z cb 16) shapeCasts_S1x1_S_) (constant S_ .f32 0x36800000#32)

end Results

/-! ## The operations after the grid -/

section Tail

variable (V : Valuation τ sig (Elt F))

theorem tail_v2 : StableHlo.after hostOps1 V (Proc.devRef .tc main_v2)
    = shapeCast S16x512x64 (V (Proc.devRef .tc main_v1_0)) shapeCasts_S8192x64_S16x512x64 := by
  after_results_simp <;> rfl

theorem tail_v3 : StableHlo.after hostOps1 V (Proc.devRef .tc main_v3)
    = transpose S16x512x2 [0, 2, 1] (V (Proc.devRef .tc main_v1_1)) transposes_S16x2x512_S16x512x2_0_2_1 := by
  after_results_simp <;> rfl

theorem tail_v5 : StableHlo.after hostOps1 V (Proc.devRef .tc main_v5)
    = mulf (shapeCast S_ (V (Proc.devRef .tc main_v1_2)) shapeCasts_S1x1_S_ : Vec F S_ .f32) (constant S_ .f32 0x36800000#32) := by
  after_results_simp <;> rfl

theorem tail_arg0 : StableHlo.after hostOps1 V (Proc.devRef .tc main_arg0) = V (Proc.devRef .tc main_arg0) := by
  after_results_simp

end Tail

variable (m : ∀ ℓ : Loc nD τ sig, Buf (Elt F) ℓ) (ρ : Dev nD → PrngReg)

/-- After the grid, each of the pipeline's arrays holds what its write-backs left. -/
theorem withArrays_out (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  Pipeline.withArrays_arr cfg0.spec (by decide) c _ _ w

/-- The kernel terminates, its results are the functions above of its arguments, and its arguments are unchanged. -/
theorem run : θ_run defs (onTc (τ := τ) (main (F := F))) ⟨m, fun _ => 0, ρ⟩ (fun r => ∀ c : Dev nD,
      r.2.mem ((c.tc : Thread nD τ).loc main_v2) = quantized (argZ m c) (argC m c)
      ∧ r.2.mem ((c.tc : Thread nD τ).loc main_v3) = indicesByRow (argZ m c) (argC m c)
      ∧ r.2.mem ((c.tc : Thread nD τ).loc main_v5) = loss (argZ m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h, hu⟩ := h
  refine ⟨?_, ?_, ?_, (hu c).1, (hu c).2⟩
  · refine ((h c).2 main_v2 (Pipeline.mem_restRefs_of main_v2 (by decide) (by decide))).trans ((tail_v2 _).trans ?_)
    refine (congrArg (fun X : Vec F S8192x64 .f32 => shapeCast S16x512x64 X shapeCasts_S8192x64_S16x512x64)
      ((withArrays_out m c 2).trans (array_2 m c))).trans ?_
    exact funext fun i => congrArg (quantized (argZ m c) (argC m c)) (Shape.reshapeEquiv_eq_of_rowMajor _ (Shape.rowMajor_reshapeEquiv _ _).symm)
  · refine ((h c).2 main_v3 (Pipeline.mem_restRefs_of main_v3 (by decide) (by decide))).trans ((tail_v3 _).trans ?_)
    refine (congrArg (fun X : Vec F S16x2x512 .i32 => transpose S16x512x2 [0, 2, 1] X transposes_S16x2x512_S16x512x2_0_2_1)
      ((withArrays_out m c 3).trans (array_3 m c))).trans ?_
    rfl
  · refine ((h c).2 main_v5 (Pipeline.mem_restRefs_of main_v5 (by decide) (by decide))).trans ((tail_v5 _).trans ?_)
    refine (congrArg (fun X : Vec F S1x1 .f32 => mulf (shapeCast S_ X shapeCasts_S1x1_S_ : Vec F S_ .f32) (constant S_ .f32 0x36800000#32))
      ((withArrays_out m c 4).trans (array_4 m c))).trans ?_
    rfl

end Cert.Proof.Ker

end
-- ==== Proof.Least.lean ====
/- The first least place of a finite family of extended reals, and that both ways of computing it — the kernel's index
   reduction and the host's two-operand reduction — answer that place. -/
module

public import proofs.«01_k».proof.Proof.KerRun
public import Idealize.ShloMosaic.PureOps.Ideal
public import Idealize.ShloMosaic.PureOps.Ideal.Laws
public import Idealize.ShloMosaic.PureOps.Reduce
public import Idealize.ShloMosaic.Lib.ValueIdx

@[expose] public section

noncomputable section

namespace Cert.Proof

open Idealize.ShloMosaic Idealize.ShloMosaic.ValueIdx

/-- `k` is the first place at which `f` is least. -/
def FirstLeast {n : ℕ} (f : Fin n → EReal) (k : Fin n) : Prop :=
  (∀ i, f k ≤ f i) ∧ ∀ i, f i = f k → k ≤ i

/-- There is at most one such place. -/
theorem FirstLeast.unique {n : ℕ} {f : Fin n → EReal} {k l : Fin n} (hk : FirstLeast f k) (hl : FirstLeast f l) : k = l :=
  le_antisymm (hk.2 l (le_antisymm (hl.1 k) (hk.1 l))) (hl.2 k (le_antisymm (hk.1 l) (hl.1 k)))

/-- There is one. -/
theorem FirstLeast.exists {n : ℕ} [NeZero n] (f : Fin n → EReal) : ∃ k, FirstLeast f k := by
  obtain ⟨a, -, ha⟩ := Finset.exists_min_image Finset.univ f Finset.univ_nonempty
  obtain ⟨k, hk, hmin⟩ := Finset.exists_min_image (Finset.univ.filter fun i => f i = f a) id ⟨a, by simp⟩
  have hk : f k = f a := by simpa using hk
  exact ⟨k, fun i => hk.le.trans (ha i (Finset.mem_univ i)), fun i hi => hmin i (by simp [hi, hk])⟩

/-- The first place at which `f` is least. -/
def firstLeast {n : ℕ} [NeZero n] (f : Fin n → EReal) : Fin n := (FirstLeast.exists f).choose

theorem firstLeast_spec {n : ℕ} [NeZero n] (f : Fin n → EReal) : FirstLeast f (firstLeast f) := (FirstLeast.exists f).choose_spec

/-! ## The kernel's index reduction -/

/-- The kernel's index reduction along the rows of a matrix answers the first least place of each row. -/
theorem reduceIndex_apply {R n : ℕ} [NeZero n] (x : (⟨2, ![R, n]⟩ : Shape).Idx → EReal)
    (h : (⟨2, ![R, n]⟩ : Shape).Reduces [1] ⟨1, ![R]⟩) (s : Fin R) :
    Ideal.reduceIndex .argMin 1 h x (ix1 s) = BitVec.ofNat 32 (firstLeast fun k => x (ix2 s k)).val := by
  classical
  set f : Fin n → EReal := fun k => x (ix2 s k) with hf
  have hdrop : ∀ i : (⟨2, ![R, n]⟩ : Shape).Idx, h.drop i = ix1 s ↔ i = ix2 s (i 1) := by
    intro i
    have e : h.drop i = ix1 (i 0) := by
      funext a
      match a with
      | ⟨0, _⟩ => rfl
    rw [e]
    constructor
    · intro e
      have : i 0 = s := congrFun e 0
      rw [← this]; exact eq_ix2 i
    · intro e
      rw [e]; rfl
  unfold Ideal.reduceIndex
  simp only [reduceCtorEq, if_false]
  congr 1
  obtain ⟨h1, h2⟩ := firstLeast_spec f
  have hs : ((Finset.univ.filter (fun i => h.drop i = ix1 s)).filter (fun i =>
      ∀ i' ∈ Finset.univ.filter (fun i => h.drop i = ix1 s), ¬ x i' < x i)).image (fun i => (i 1).val)
      = (Finset.univ.filter (fun k : Fin n => f k = f (firstLeast f))).image Fin.val := by
    ext v
    simp only [Finset.mem_image, Finset.mem_filter, Finset.mem_univ, true_and, hdrop, not_lt]
    constructor
    · rintro ⟨i, ⟨hi, hl⟩, rfl⟩
      refine ⟨i 1, le_antisymm ?_ (h1 _), rfl⟩
      have := hl (ix2 s (firstLeast f)) rfl
      rw [hi] at this
      exact this
    · rintro ⟨k, hk, rfl⟩
      refine ⟨ix2 s k, ⟨rfl, fun i' hi' => ?_⟩, rfl⟩
      rw [hi']
      exact hk.le.trans (h1 _)
  have hm : ((Finset.univ.filter (fun k : Fin n => f k = f (firstLeast f))).image Fin.val).min
      = ((firstLeast f).val : WithTop ℕ) := by
    refine le_antisymm (Finset.min_le (Finset.mem_image.2 ⟨firstLeast f, by simp, rfl⟩)) (Finset.le_min fun v hv => ?_)
    simp only [Finset.mem_image, Finset.mem_filter, Finset.mem_univ, true_and] at hv
    obtain ⟨k, hk, rfl⟩ := hv
    exact WithTop.coe_le_coe.2 (h2 k hk)
  refine (congrArg (fun o : Option ℕ => o.getD 0) (?_ : _ = some (firstLeast f).val))
  refine Eq.trans (congrArg Finset.min ?_) hm
  exact hs

/-! ## The host's two-operand reduction -/

/-- The order of the host's reduction: by value, and of equal values by index. -/
def PairLe (p q : EReal × BitVec 32) : Prop := p.1 ≤ q.1 ∧ (p.1 = q.1 → p.2.toInt ≤ q.2.toInt)

theorem PairLe.refl (p : EReal × BitVec 32) : PairLe p p := ⟨le_rfl, fun _ => le_rfl⟩

theorem PairLe.trans {p q r : EReal × BitVec 32} (h : PairLe p q) (k : PairLe q r) : PairLe p r := by
  refine ⟨h.1.trans k.1, fun e => ?_⟩
  have e₁ : p.1 = q.1 := le_antisymm h.1 (e ▸ k.1)
  exact (h.2 e₁).trans (k.2 (e₁ ▸ e))

/-- One step of the host's reduction: the lesser value, and of equal values the lesser index. -/
theorem reducer_apply (a b : EReal × BitVec 32) :
    Cert.ReferenceIdeal.reducer_argmin_f32_i32 (F := Ideal) a b
      = if a.1 < b.1 then a else if a.1 = b.1 then (a.1, if a.2.slt b.2 then a.2 else b.2) else b := by
  rcases a with ⟨a1, a2⟩
  rcases b with ⟨b1, b2⟩
  unfold Cert.ReferenceIdeal.reducer_argmin_f32_i32
  rcases lt_trichotomy a1 b1 with h | h | h
  · simp [Ideal.cmpf_def, Ideal.cmp, h, h.ne, IntOp.ori, IntOp.andi, Scalar.select]
  · subst h
    cases hc : a2.slt b2 <;> simp [Ideal.cmpf_def, Ideal.cmp, IntOp.ori, IntOp.andi, IntOp.cmpi, Scalar.select, hc]
  · simp [Ideal.cmpf_def, Ideal.cmp, h.not_gt, h.ne', IntOp.ori, IntOp.andi, Scalar.select]

/-- A step answers one of its two pairs, and the lesser. -/
theorem reducer_least (a b : EReal × BitVec 32) :
    (Cert.ReferenceIdeal.reducer_argmin_f32_i32 (F := Ideal) a b = a ∨ Cert.ReferenceIdeal.reducer_argmin_f32_i32 (F := Ideal) a b = b)
    ∧ PairLe (Cert.ReferenceIdeal.reducer_argmin_f32_i32 (F := Ideal) a b) a
    ∧ PairLe (Cert.ReferenceIdeal.reducer_argmin_f32_i32 (F := Ideal) a b) b := by
  rw [reducer_apply]
  rcases a with ⟨a1, a2⟩
  rcases b with ⟨b1, b2⟩
  rcases lt_trichotomy a1 b1 with h | h | h
  · simp only [h, if_true]
    exact ⟨by simp, .refl _, h.le, fun e => absurd e h.ne⟩
  · subst h
    simp only [lt_irrefl, if_false, if_true]
    by_cases hc : a2.slt b2 = true
    · simp only [hc, if_true]
      rw [BitVec.slt_iff_toInt_lt] at hc
      exact ⟨by simp, .refl _, le_rfl, fun _ => hc.le⟩
    · simp only [hc]
      rw [BitVec.slt_iff_toInt_lt, not_lt] at hc
      exact ⟨by simp, ⟨le_rfl, fun _ => hc⟩, .refl _⟩
  · simp only [h.not_gt, h.ne', if_false]
    exact ⟨by simp, ⟨h.le, fun e => absurd e h.ne⟩, .refl _⟩

/-- The fold of that step over a list, from `p`: a pair of the list or `p`, and the least among them. -/
theorem fold_least (l : List (EReal × BitVec 32)) (p : EReal × BitVec 32) :
    (l.foldl (Cert.ReferenceIdeal.reducer_argmin_f32_i32 (F := Ideal)) p = p
      ∨ l.foldl (Cert.ReferenceIdeal.reducer_argmin_f32_i32 (F := Ideal)) p ∈ l)
    ∧ PairLe (l.foldl (Cert.ReferenceIdeal.reducer_argmin_f32_i32 (F := Ideal)) p) p
    ∧ ∀ q ∈ l, PairLe (l.foldl (Cert.ReferenceIdeal.reducer_argmin_f32_i32 (F := Ideal)) p) q := by
  induction l generalizing p with
  | nil => exact ⟨.inl rfl, .refl _, fun q hq => absurd hq List.not_mem_nil⟩
  | cons b l ih =>
    obtain ⟨hm, hp, hl⟩ := ih (Cert.ReferenceIdeal.reducer_argmin_f32_i32 (F := Ideal) p b)
    obtain ⟨sm, sp, sb⟩ := reducer_least p b
    rw [List.foldl_cons]
    refine ⟨?_, hp.trans sp, fun q hq => ?_⟩
    · rcases hm with h | h
      · rw [h]
        rcases sm with e | e
        · exact .inl e
        · rw [e]; exact .inr List.mem_cons_self
      · exact .inr (List.mem_cons_of_mem _ h)
    · rcases List.mem_cons.1 hq with rfl | hq
      · exact hp.trans sb
      · exact hl q hq

/-- The fold over the pairs `(f k, k)`, in any order and from a pair of value `⊤`, answers the first least place of `f`. -/
theorem fold_firstLeast {n : ℕ} [NeZero n] (hn : n ≤ 2 ^ 31) (f : Fin n → EReal) (hf : ∀ k, f k < ⊤)
    (l : List (EReal × BitVec 32)) (p : EReal × BitVec 32) (hp : p.1 = ⊤)
    (hl : ∀ q, q ∈ l ↔ ∃ k : Fin n, q = (f k, BitVec.ofNat 32 k.val)) :
    (l.foldl (Cert.ReferenceIdeal.reducer_argmin_f32_i32 (F := Ideal)) p).2 = BitVec.ofNat 32 (firstLeast f).val := by
  obtain ⟨hm, -, hle⟩ := fold_least l p
  generalize l.foldl (Cert.ReferenceIdeal.reducer_argmin_f32_i32 (F := Ideal)) p = r at hm hle
  have hin : ∃ k : Fin n, r = (f k, BitVec.ofNat 32 k.val) := by
    rcases hm with e | h
    · have h0 := (hle _ ((hl _).2 ⟨firstLeast f, rfl⟩)).1
      rw [e, hp] at h0
      exact absurd (h0.trans_lt (hf _)) (lt_irrefl _)
    · exact (hl _).1 h
  obtain ⟨k, rfl⟩ := hin
  have toInt_val : ∀ i : Fin n, (BitVec.ofNat 32 i.val).toInt = i.val := fun i => by
    have := i.isLt
    rw [BitVec.toInt_eq_toNat_of_lt] <;> rw [BitVec.toNat_ofNat, Nat.mod_eq_of_lt (by omega)]
    omega
  have hk : FirstLeast f k := by
    refine ⟨fun i => (hle _ ((hl _).2 ⟨i, rfl⟩)).1, fun i hi => ?_⟩
    have := (hle _ ((hl _).2 ⟨i, rfl⟩)).2 hi.symm
    simp only [toInt_val] at this
    exact Fin.le_def.2 (by omega)
  rw [hk.unique (firstLeast_spec f)]

/-- The pairs that reduce to a result index are those of the operand indices that drop to it. -/
theorem mem_fiber {α β : Type} {s t : Shape} {axes : List (Fin s.rank)} (x : s.Idx → α) (y : s.Idx → β) (h : s.ReducesTo axes t)
    (j : t.Idx) (q : α × β) : q ∈ Host.argReduceFiber x y h j ↔ ∃ i, h.drop i = j ∧ q = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The host's two-operand reduction at a place, at any shapes: where the values that belong to the place are those of `f`, each with
its number, and the initial value is `⊤`, the index is the first least place of `f`. -/
theorem leastAt_apply {s t u : Shape} {axes : List (Fin s.rank)} {n : ℕ} [NeZero n] (hn : n ≤ 2 ^ 31)
    (x : FVec Ideal s .f32) (y : IVec s 32) (ix : FVec Ideal u .f32) (iy : IVec u 32)
    (h : s.ReducesTo axes t) (hu : 0 < u.numel) (j : t.Idx) (f : Fin n → EReal) (hf : ∀ k, f k < ⊤)
    (hp : ix (Shape.Idx.first hu) = (⊤ : EReal))
    (hfib : ∀ q : EReal × BitVec 32, (∃ i, h.drop i = j ∧ q = (x i, y i)) ↔ ∃ k, q = (f k, BitVec.ofNat 32 k.val)) :
    Ref.leastAt (F := Ideal) x y ix iy h hu j = BitVec.ofNat 32 (firstLeast f).val := by
  unfold Ref.leastAt
  rw [Ideal.argReduce_eq_reduce2, Host.reduce2_eq_foldl_fiber]
  exact fold_firstLeast hn f hf _ _ hp fun q => (mem_fiber x y h j q).trans (hfib q)

section Host

open Cert.ReferenceIdeal Cert.ReferenceIdeal.Gen

/-- The scores that belong to row `(b, s)`. -/
theorem scores_drop (i : S16x512x8192.Idx) (b : Fin 16) (s : Fin 512) :
    (reducesTo_S16x512x8192_S16x512_d2 : S16x512x8192.ReducesTo [2] S16x512).drop i = ix2 b s ↔ i = ix3 b s (i 2) := by
  have e : (reducesTo_S16x512x8192_S16x512_d2 : S16x512x8192.ReducesTo [2] S16x512).drop i = ix2 (i 0) (i 1) := by
    funext a
    match a with
    | ⟨0, _⟩ => rfl
    | ⟨1, _⟩ => rfl
  rw [e]
  constructor
  · intro e
    have e0 : i 0 = b := congrFun e 0
    have e1 : i 1 = s := congrFun e 1
    rw [← e0, ← e1]; exact eq_ix3 i
  · intro e
    rw [e]; rfl

/-- The bits of `+∞` are `⊤`. -/
theorem inf_eq (i : S_.Idx) : constant (F := Ideal) S_ .f32 0x7F800000#32 i = (⊤ : EReal) := by
  simp [constant, Ideal.ofBits, Ideal.ieee]

/-- The host's index of the least value along the last axis is the first least place, when every value is below `⊤`. -/
theorem nearest_apply (d : FVec Ideal S16x512x8192 .f32) (b : Fin 16) (s : Fin 512) (hd : ∀ k : Fin 8192, d (ix3 b s k) < ⊤) :
    Ref.nearest (F := Ideal) d (ix2 b s) = BitVec.ofNat 32 (firstLeast fun k : Fin 8192 => d (ix3 b s k)).val :=
  leastAt_apply (by norm_num) d (iotaInDim S16x512x8192 32 2) (constant (F := Ideal) S_ .f32 0x7F800000#32) (constantI S_ 32 0#32)
    reducesTo_S16x512x8192_S16x512_d2 h_S_ (ix2 b s) _ hd (inf_eq _) fun q => by
    constructor
    · rintro ⟨i, hi, rfl⟩
      exact ⟨i 2, Prod.ext (congrArg d ((scores_drop i b s).1 hi)) rfl⟩
    · rintro ⟨k, rfl⟩
      exact ⟨ix3 b s k, (scores_drop _ b s).2 rfl, rfl⟩

end Host

end Cert.Proof

end
-- ==== Proof.Spec.lean ====
/- The mathematics both programs compute, over the reals: the score of a vector against a code, the number of the code with
   the least score, that code, and what is left of the vector after it. And that sums of reals are the same sums among the
   extended reals. -/
module

public import proofs.«01_k».proof.Proof.Least

@[expose] public section

noncomputable section

namespace Cert.Proof

/-- A codebook of 8192 real code vectors. -/
abbrev Book := Fin 8192 → Fin 64 → ℝ

/-- The squared norm of a vector. -/
def sq (x : Fin 64 → ℝ) : ℝ := ∑ d, x d * x d

/-- The score of a vector against code `k`: its squared distance from the code. -/
def score (c : Book) (x : Fin 64 → ℝ) (k : Fin 8192) : ℝ := sq x - 2 * (∑ d, x d * c k d) + sq (c k)

/-- The number of the nearest code. -/
def pick (c : Book) (x : Fin 64 → ℝ) : Fin 8192 := firstLeast fun k => ((score c x k : ℝ) : EReal)

/-- The nearest code. -/
def code (c : Book) (x : Fin 64 → ℝ) : Fin 64 → ℝ := c (pick c x)

/-- What is left of the vector after its nearest code. -/
def rest (c : Book) (x : Fin 64 → ℝ) : Fin 64 → ℝ := fun d => x d - code c x d

/-- A sum of reals, taken among the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

end Cert.Proof

end
-- ==== Proof.Consts.lean ====
/- The numbers that the programs' constants stand for. -/
module

public import proofs.«01_k».proof.Proof.Spec
public import Idealize.ShloMosaic.Lib.Pointwise

@[expose] public section

noncomputable section

namespace Cert.Proof

open Idealize.ShloMosaic

theorem bits_neg_two : Ideal.ofBits .f32 0xC0000000#32 = ((-2 : ℝ) : EReal) := by
  simp [Ideal.ofBits, Ideal.ieee, -EReal.coe_mul]; try norm_num

theorem bits_two : Ideal.ofBits .f32 0x40000000#32 = ((2 : ℝ) : EReal) := by
  simp [Ideal.ofBits, Ideal.ieee, -EReal.coe_mul]; try norm_num

theorem bits_one : Ideal.ofBits .f32 0x3F800000#32 = ((1 : ℝ) : EReal) := by
  simp [Ideal.ofBits, Ideal.ieee, -EReal.coe_mul]; try norm_num

/-- The number of entries of the argument. -/
theorem bits_count : Ideal.ofBits .f32 0x49000000#32 = ((524288 : ℝ) : EReal) := by
  simp [Ideal.ofBits, Ideal.ieee, -EReal.coe_mul]; try norm_num

/-- Twice its inverse. -/
theorem bits_twice_inv : Ideal.ofBits .f32 0x36800000#32 = ((2 / 524288 : ℝ) : EReal) := by
  simp [Ideal.ofBits, Ideal.ieee, -EReal.coe_mul]; try norm_num

end Cert.Proof

end
-- ==== Proof.KerMath.lean ====
/- One grid step of the kernel over real data: the index payload is the number of the nearest code, the product of the
   one-hot rows with the three stored parts of the codebook is that code, and the step's results are the two codes'
   sum, the two numbers, and the two squared distances added to the running loss. -/
module

public import proofs.«01_k».proof.Proof.Consts

@[expose] public section

noncomputable section

namespace Cert.Proof.Ker

open Idealize.ShloMosaic
open Cert.KernelIdeal Cert.KernelIdeal.Gen

set_option maxRecDepth 16384

/-- The three sums of a score, over real data. -/
theorem score_coe (c : Book) (x : Fin 64 → ℝ) (k : Fin 8192) :
    (∑ d, (x d : EReal) * (x d : EReal)) + (∑ d, (x d : EReal) * ((-2 : ℝ) : EReal) * (c k d : EReal)) + ((sq (c k) : ℝ) : EReal)
      = ((score c x k : ℝ) : EReal) := by
  simp only [← EReal.coe_mul, ← coe_sum, ← EReal.coe_add]
  congr 1
  unfold score sq
  rw [Finset.mul_sum, sub_eq_add_neg, ← Finset.sum_neg_distrib]
  congr 2
  exact Finset.sum_congr rfl fun d _ => by ring

/-- The mark of a code in a one-hot row: one at the row's own code, zero elsewhere. -/
theorem mark_eq (k p : Fin 8192) :
    (FloatOps.sitofp (F := Ideal) FTy.f32 (BitVec.setWidth 32 (IntOp.cmpi CmpIPredicate.eq (BitVec.ofNat 32 k.val) (BitVec.ofNat 32 p.val))) : EReal)
      = if k = p then 1 else 0 := by
  have e : BitVec.ofNat 32 k.val = BitVec.ofNat 32 p.val ↔ k = p := by
    refine ⟨fun e => ?_, fun e => by rw [e]⟩
    have e' := congrArg BitVec.toNat e
    simp only [BitVec.toNat_ofNat] at e'
    exact Fin.ext (by omega)
  show (((BitVec.setWidth 32 (IntOp.cmpi CmpIPredicate.eq (BitVec.ofNat 32 k.val) (BitVec.ofNat 32 p.val))).toInt : ℝ) : EReal) = _
  by_cases h : k = p
  · simp [IntOp.cmpi, h]
  · have h' : ¬ BitVec.ofNat 32 k.val = BitVec.ofNat 32 p.val := fun q => h (e.1 q)
    have hb : (BitVec.ofNat 32 k.val == BitVec.ofNat 32 p.val) = false := beq_false_of_ne h'
    simp [IntOp.cmpi, h, hb]

section Stage

variable (c : Book) (x : Fin 512 → Fin 64 → ℝ)
  (v5 : FVec Ideal S8192x64 .bf16) (v6 : FVec Ideal S8192x192 .bf16) (v7 : FVec Ideal S1x8192 .f32) (v40 v41 : FVec Ideal S512x64 .f32)
  (h5 : ∀ k d, v5 (ix2 k d) = ((c k d : ℝ) : EReal)) (h7 : ∀ k, v7 (ix2 0 k) = ((sq (c k) : ℝ) : EReal))
  (h40 : ∀ s d, v40 (ix2 s d) = ((x s d : ℝ) : EReal)) (h41 : ∀ s d, v41 (ix2 s d) = ((-2 : ℝ) : EReal))

include h5 h7 h40 h41

/-- The index payload of row `s`. -/
theorem index_apply (s : Fin 512) : k0_pay12 v5 v7 v40 v41 (ix1 s) = BitVec.ofNat 32 (pick c (x s)).val := by
  unfold k0_pay12
  rw [ix1_eq_valueIdx]
  refine (reduceIndex_apply _ _ s).trans ?_
  unfold pick
  congr 2
  congr 1
  funext k
  rw [← ix2_eq_valueIdx]
  pointwise
  simp only [h5, h7, h40, h41]
  exact score_coe c (x s) k

variable (h6 : ∀ k (d : Fin 64), v6 (ix2 k ⟨d.val, by omega⟩) = ((c k d : ℝ) : EReal))
  (h6m : ∀ k (d : Fin 64), v6 (ix2 k ⟨64 + d.val, by omega⟩) = ((0 : ℝ) : EReal))
  (h6l : ∀ k (d : Fin 64), v6 (ix2 k ⟨128 + d.val, by omega⟩) = ((0 : ℝ) : EReal))

include h6 h6m h6l

/-- The product of row `s`'s marks with the codebook's parts is its nearest code. -/
theorem code_apply (s : Fin 512) (d : Fin 64) : k0_pay13 v5 v6 v7 v40 v41 (ix2 s d) = ((code c (x s) d : ℝ) : EReal) := by
  pointwise [k0_pay13]
  simp only [index_apply c x v5 v7 v40 v41 h5 h7 h40 h41, mark_eq]
  simp only [h6, h6m, h6l, ite_mul, one_mul, zero_mul, Finset.sum_ite_eq', Finset.mem_univ, if_true]
  simp [code]

end Stage

section Block

variable (c : Book) (x : Fin 512 → Fin 64 → ℝ)
  (X : FVec Ideal S512x64 .f32) (b : FVec Ideal S8192x64 .bf16) (w : FVec Ideal S8192x192 .bf16) (n : FVec Ideal S1x8192 .f32)
  (hX : ∀ s d, X (ix2 s d) = ((x s d : ℝ) : EReal))
  (hb : ∀ k d, b (ix2 k d) = ((c k d : ℝ) : EReal)) (hn : ∀ k, n (ix2 0 k) = ((sq (c k) : ℝ) : EReal))
  (hw : ∀ k (d : Fin 64), w (ix2 k ⟨d.val, by omega⟩) = ((c k d : ℝ) : EReal))
  (hm : ∀ k (d : Fin 64), w (ix2 k ⟨64 + d.val, by omega⟩) = ((0 : ℝ) : EReal))
  (hl : ∀ k (d : Fin 64), w (ix2 k ⟨128 + d.val, by omega⟩) = ((0 : ℝ) : EReal))

theorem pay6_apply (s : Fin 512) (d : Fin 64) : k0_pay6 (F := Ideal) X (ix2 s d) = X (ix2 s d) := by pointwise [k0_pay6]

theorem pay11_apply (s : Fin 512) (d : Fin 64) : k0_pay11 (F := Ideal) (ix2 s d) = ((-2 : ℝ) : EReal) := by
  pointwise [k0_pay11]; exact bits_neg_two

include hX hb hn

/-- The first stage's index of row `s`. -/
theorem pay7_apply (s : Fin 512) : k0_pay7 (F := Ideal) X b n (ix1 s) = BitVec.ofNat 32 (pick c (x s)).val :=
  index_apply c x b n (k0_pay6 (F := Ideal) X) (k0_pay11 (F := Ideal)) hb hn (fun s d => (pay6_apply X s d).trans (hX s d)) pay11_apply s

include hw hm hl

/-- The first stage's code of row `s`. -/
theorem pay8_apply (s : Fin 512) (d : Fin 64) : k0_pay8 (F := Ideal) X b w n (ix2 s d) = ((code c (x s) d : ℝ) : EReal) :=
  code_apply c x b w n (k0_pay6 (F := Ideal) X) (k0_pay11 (F := Ideal)) hb hn (fun s d => (pay6_apply X s d).trans (hX s d)) pay11_apply hw hm hl s d

/-- What the first stage leaves of row `s`. -/
theorem pay10_apply (s : Fin 512) (d : Fin 64) : k0_pay10 (F := Ideal) X b w n (ix2 s d) = ((rest c (x s) d : ℝ) : EReal) := by
  pointwise [k0_pay10]
  rw [pay6_apply, hX, pay8_apply c x X b w n hX hb hn hw hm hl, ← EReal.coe_sub]
  rfl

/-- The first stage's squared distances. -/
theorem pay9_apply : k0_pay9 (F := Ideal) X b w n = ((∑ s, sq (rest c (x s)) : ℝ) : EReal) := by
  pointwise [k0_pay9]
  simp only [pay6_apply, hX, pay8_apply c x X b w n hX hb hn hw hm hl, ← EReal.coe_sub, ← EReal.coe_mul, ← coe_sum]
  rfl

/-- The block's quantized row `s`: the two stages' codes. -/
theorem blockQ_apply (s : Fin 512) (d : Fin 64) :
    blockQ (F := Ideal) X b w n (ix2 s d) = ((code c (x s) d + code c (rest c (x s)) d : ℝ) : EReal) := by
  pointwise [blockQ, k0_pay14]
  rw [pay8_apply c x X b w n hX hb hn hw hm hl,
    code_apply c (fun s => rest c (x s)) b w n (k0_pay10 (F := Ideal) X b w n) (k0_pay11 (F := Ideal)) hb hn (pay10_apply c x X b w n hX hb hn hw hm hl) pay11_apply hw hm hl,
    ← EReal.coe_add]

/-- The block's two numbers of row `s`. -/
theorem blockI_apply (a : Fin 2) (s : Fin 512) :
    blockI (F := Ideal) X b w n (ix3 0 a s)
      = if a.val < 1 then BitVec.ofNat 32 (pick c (x s)).val else BitVec.ofNat 32 (pick c (rest c (x s))).val := by
  pointwise [blockI, k0_pay15]
  rw [pay7_apply c x X b n hX hb hn,
    index_apply c (fun s => rest c (x s)) b n (k0_pay10 (F := Ideal) X b w n) (k0_pay11 (F := Ideal)) hb hn (pay10_apply c x X b w n hX hb hn hw hm hl) pay11_apply]
  by_cases h : a.val < 1 <;> simp [h]

/-- The block's loss: both stages' squared distances, added to the loss before. -/
theorem blockL_apply (l : FVec Ideal S1x1 .f32) (p : ℝ) (hp : l (ix2 0 0) = (p : EReal)) :
    blockL (F := Ideal) X b w n l (ix2 0 0) = ((p + (∑ s, sq (rest c (x s)) + ∑ s, sq (rest c (rest c (x s)))) : ℝ) : EReal) := by
  pointwise [blockL, k0_pay16]
  simp only [hp, pay9_apply c x X b w n hX hb hn hw hm hl, pay10_apply c x X b w n hX hb hn hw hm hl,
    code_apply c (fun s => rest c (x s)) b w n (k0_pay10 (F := Ideal) X b w n) (k0_pay11 (F := Ideal)) hb hn (pay10_apply c x X b w n hX hb hn hw hm hl) pay11_apply hw hm hl,
    ← EReal.coe_sub, ← EReal.coe_mul, ← coe_sum, ← EReal.coe_add]
  rfl

end Block

section Book

variable (c : Book) (v : FVec Ideal S8192x64 .f32) (hv : ∀ k d, v (ix2 k d) = ((c k d : ℝ) : EReal))

include hv

/-- The stored codebook. -/
theorem pay2_apply (k : Fin 8192) (d : Fin 64) : k0_pay2 (F := Ideal) v (ix2 k d) = ((c k d : ℝ) : EReal) := by
  pointwise [k0_pay2, k0_pay1]; exact hv k d

/-- The stored squared norms. -/
theorem pay4_apply (k : Fin 8192) : k0_pay4 (F := Ideal) v (ix2 0 k) = ((sq (c k) : ℝ) : EReal) := by
  pointwise [k0_pay4]
  simp only [hv, ← EReal.coe_mul, ← coe_sum]
  rfl

/-- The first of the three stored parts is the codebook; the other two, what rounding took away, are zero. -/
theorem pay3_apply (k : Fin 8192) (d : Fin 192) :
    k0_pay3 (F := Ideal) v (ix2 k d) = if h : d.val < 64 then ((c k ⟨d.val, h⟩ : ℝ) : EReal) else ((0 : ℝ) : EReal) := by
  pointwise [k0_pay3, k0_pay1]
  simp only [hv, ← EReal.coe_sub, sub_self]
  by_cases h : d.val < 64 <;> simp [h]

theorem pay3_hi (k : Fin 8192) (d : Fin 64) : k0_pay3 (F := Ideal) v (ix2 k ⟨d.val, by omega⟩) = ((c k d : ℝ) : EReal) := by
  rw [pay3_apply c v hv, dif_pos d.isLt]

theorem pay3_mid (k : Fin 8192) (d : Fin 64) : k0_pay3 (F := Ideal) v (ix2 k ⟨64 + d.val, by omega⟩) = ((0 : ℝ) : EReal) := by
  rw [pay3_apply c v hv, dif_neg (by simp)]

theorem pay3_lo (k : Fin 8192) (d : Fin 64) : k0_pay3 (F := Ideal) v (ix2 k ⟨128 + d.val, by omega⟩) = ((0 : ℝ) : EReal) := by
  rw [pay3_apply c v hv, dif_neg (by simp; omega)]

end Book

end Cert.Proof.Ker

end
-- ==== Proof.RefMath.lean ====
/- The reference over real data: the scores, the number of the nearest code, the looked-up code and the results. -/
module

public import proofs.«01_k».proof.Proof.KerMath

@[expose] public section

noncomputable section

namespace Cert.Proof.Ref

open Idealize.ShloMosaic
open Cert.ReferenceIdeal Cert.ReferenceIdeal.Gen

set_option maxRecDepth 16384

/-- A lookup of whole rows, at any sizes: the row at the index, where that index is a number of a row. -/
theorem rows_apply {α : Type} {N D R C : ℕ} (g : GatherDims ⟨2, ![N, D]⟩ ⟨3, ![R, C, 1]⟩ ⟨3, ![R, C, D]⟩)
    (h1 : g.offsetDims = [2]) (h2 : g.collapsedSliceDims = [0]) (h3 : g.operandBatchingDims = [])
    (h4 : g.startIndicesBatchingDims = []) (h5 : g.startIndexMap = [0]) (h6 : g.indexVectorDim = 2) (h7 : g.sliceSizes = ![1, D])
    (x : (⟨2, ![N, D]⟩ : Shape).Idx → α) (i : IVec ⟨3, ![R, C, 1]⟩ 32) (b : Fin R) (s : Fin C) (d : Fin D) (k : Fin N)
    (hk : (i (ix3 b s 0)).toInt = (k.val : ℤ)) : Host.gather g x i (ix3 b s d) = x (ix2 k d) := by
  obtain ⟨o, c, ob, sb, m, v, z, wf⟩ := g
  simp only at h1 h2 h3 h4 h5 h6 h7
  subst h1 h2 h3 h4 h5 h6 h7
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hs : ∀ q, GatherDims.siIdx (s := ⟨2, ![N, D]⟩) ⟨[2], [0], [], [], [0], 2, ![1, D], wf⟩ (ix3 b s d) q = ix3 b s 0 := by
      intro q
      funext e
      refine Fin.ext ?_
      match e with
      | ⟨0, _⟩ => rfl
      | ⟨1, _⟩ => rfl
      | ⟨2, _⟩ =>
        show q.val = 0
        have := q.isLt
        simp only [List.length_singleton] at this
        omega
    rw [hs, hk]
    show min (k.val : ℤ).toNat (N - 1) = k.val
    omega
  · rw [GatherDims.batchCoord_eq_zero _ _ _ List.not_mem_nil]
    unfold GatherDims.start
    rw [dif_neg (by simp)]
    simp only [Nat.zero_add]
    rfl

/-- A number of a code, read as a signed integer. -/
theorem toInt_code (k : Fin 8192) : (BitVec.ofNat 32 k.val).toInt = (k.val : ℤ) := by
  rw [BitVec.toInt_eq_toNat_of_lt] <;> simp only [BitVec.toNat_ofNat] <;> omega

/-- A reduction by "and" along the unit axis is its one entry. -/
theorem inBook_apply (i : IVec S16x512x1 32) (b : Fin 16) (s : Fin 512) (k : Fin 8192) (hi : i (ix3 b s 0) = BitVec.ofNat 32 k.val) :
    inBook i (ix2 b s) = 1#1 := by
  unfold inBook
  pointwise
  rw [Finset.univ_unique, Finset.fold_singleton]
  show IntOp.andi (IntOp.andi (IntOp.cmpi _ (i (ix3 b s 0)) _) (IntOp.cmpi _ (i (ix3 b s 0)) _)) _ = _
  have h0 : (0#32).sle (BitVec.ofNat 32 k.val) = true := by
    rw [BitVec.sle_eq_decide, toInt_code]; simp
  have h1 : (BitVec.ofNat 32 k.val).sle 8191#32 = true := by
    rw [BitVec.sle_eq_decide, toInt_code]; simp; omega
  rw [hi]
  simp [IntOp.cmpi, IntOp.andi, h0, h1]

/-- The index that a lookup reads at is the index given, if that is a number of a code. -/
theorem lookupAt_apply (i : IVec S16x512 32) (b : Fin 16) (s : Fin 512) (k : Fin 8192) (hi : i (ix2 b s) = BitVec.ofNat 32 k.val) :
    lookupAt i (ix3 b s 0) = BitVec.ofNat 32 k.val := by
  pointwise [lookupAt]
  rw [hi]
  have h : IntOp.cmpi CmpIPredicate.slt (BitVec.ofNat 32 k.val) 0#32 = 0#1 := by
    have h0 : (BitVec.ofNat 32 k.val).slt 0#32 = false := by
      rw [BitVec.slt_eq_decide, toInt_code]; simp
    simp [IntOp.cmpi, h0]
  rw [h]
  rfl

/-- The lookup at a number of a code is that code. -/
theorem lookup_apply (cb : FVec Ideal S8192x64 .f32) (i : IVec S16x512 32) (b : Fin 16) (s : Fin 512) (d : Fin 64) (k : Fin 8192)
    (hi : i (ix2 b s) = BitVec.ofNat 32 k.val) : lookup (F := Ideal) cb i (ix3 b s d) = cb (ix2 k d) := by
  have h := lookupAt_apply i b s k hi
  pointwise [lookup]
  rw [inBook_apply _ b s k h, rows_apply _ rfl rfl rfl rfl rfl rfl rfl cb (lookupAt i) b s d k (by rw [h]; exact toInt_code k)]
  rfl

section Stage

variable (c : Book) (x : Fin 16 → Fin 512 → Fin 64 → ℝ) (cb : FVec Ideal S8192x64 .f32) (r : FVec Ideal S16x512x64 .f32)
  (hc : ∀ k d, cb (ix2 k d) = ((c k d : ℝ) : EReal)) (hr : ∀ b s d, r (ix3 b s d) = ((x b s d : ℝ) : EReal))

include hc

theorem codeNorms_apply (k : Fin 8192) : codeNorms (F := Ideal) cb (ix1 k) = ((sq (c k) : ℝ) : EReal) := by
  pointwise [codeNorms]
  simp only [hc, ← EReal.coe_mul, ← coe_sum]
  rfl

include hr

/-- The score of row `(b, s)` against code `k`. -/
theorem scores_apply (b : Fin 16) (s : Fin 512) (k : Fin 8192) :
    scores (F := Ideal) r cb (codeNorms cb) (ix3 b s k) = ((score c (x b s) k : ℝ) : EReal) := by
  pointwise [scores]
  simp only [hc, hr, codeNorms_apply c cb hc, bits_two, ← EReal.coe_mul, ← coe_sum, ← EReal.coe_sub, ← EReal.coe_add]
  rfl

/-- The number of the code nearest to row `(b, s)`. -/
theorem number_apply (b : Fin 16) (s : Fin 512) :
    nearest (scores (F := Ideal) r cb (codeNorms cb)) (ix2 b s) = BitVec.ofNat 32 (pick c (x b s)).val := by
  have e : ∀ k : Fin 8192, scores (F := Ideal) r cb (codeNorms cb) (ValueIdx.ix3 b s k) = ((score c (x b s) k : ℝ) : EReal) := by
    intro k
    rw [← ix3_eq_valueIdx]
    exact scores_apply c x cb r hc hr b s k
  rw [ix2_eq_valueIdx]
  refine (nearest_apply _ b s fun k => ?_).trans ?_
  · rw [e]; exact EReal.coe_lt_top _
  · simp only [e]; rfl

/-- The code nearest to row `(b, s)`. -/
theorem nearest_code (b : Fin 16) (s : Fin 512) (d : Fin 64) :
    lookup (F := Ideal) cb (nearest (scores r cb (codeNorms cb))) (ix3 b s d) = ((code c (x b s) d : ℝ) : EReal) :=
  (lookup_apply cb _ b s d _ (number_apply c x cb r hc hr b s)).trans (hc _ d)

end Stage

/-- The sum of the squared differences of real arrays. -/
theorem sqSum_apply (x y : Fin 16 → Fin 512 → Fin 64 → ℝ) (r q : FVec Ideal S16x512x64 .f32) (hr : ∀ b s d, r (ix3 b s d) = ((x b s d : ℝ) : EReal))
    (hq : ∀ b s d, q (ix3 b s d) = ((y b s d : ℝ) : EReal)) (j : S_.Idx) :
    sqSum (F := Ideal) r q j = ((∑ b, ∑ s, sq (fun d => x b s d - y b s d) : ℝ) : EReal) := by
  pointwise [sqSum]
  simp only [hr, hq, ← EReal.coe_sub, ← EReal.coe_mul, ← coe_sum]
  rfl

/-- One stage's loss: twice the mean squared difference. -/
theorem addLoss_apply (x y : Fin 16 → Fin 512 → Fin 64 → ℝ) (r q : FVec Ideal S16x512x64 .f32) (hr : ∀ b s d, r (ix3 b s d) = ((x b s d : ℝ) : EReal))
    (hq : ∀ b s d, q (ix3 b s d) = ((y b s d : ℝ) : EReal)) (l : FVec Ideal S_ .f32) (p : ℝ) (hl : ∀ j, l j = ((p : ℝ) : EReal)) (j : S_.Idx) :
    addLoss (F := Ideal) l r q j = ((p + 2 / 524288 * ∑ b, ∑ s, sq (fun d => x b s d - y b s d) : ℝ) : EReal) := by
  pointwise [addLoss, meanSq]
  simp only [sqSum_apply x y r q hr hq, hl, bits_count]
  rw [Ideal.div_coe (by norm_num), ← EReal.coe_mul, ← EReal.coe_add, ← EReal.coe_add]
  congr 1
  ring

/-- Two columns side by side, in row `(b, s)`. -/
theorem pairUp_apply (u v : IVec S16x512 32) (b : Fin 16) (s : Fin 512) (p q : BitVec 32) (hu : u (ix2 b s) = p) (hv : v (ix2 b s) = q)
    (a : Fin 2) : pairUp (column u) (column v) (ix3 b s a) = if a.val < 1 then p else q := by
  pointwise [pairUp, column]
  rw [hu, hv]
  rfl

section Results

variable (c : Book) (x : Fin 16 → Fin 512 → Fin 64 → ℝ) (cb : FVec Ideal S8192x64 .f32) (z : FVec Ideal S16x512x64 .f32)
  (hc : ∀ k d, cb (ix2 k d) = ((c k d : ℝ) : EReal)) (hz : ∀ b s d, z (ix3 b s d) = ((x b s d : ℝ) : EReal))

include hc hz

theorem index1_apply (b : Fin 16) (s : Fin 512) : index1 (F := Ideal) z cb (ix2 b s) = BitVec.ofNat 32 (pick c (x b s)).val :=
  number_apply c x cb z hc hz b s

theorem code1_apply (b : Fin 16) (s : Fin 512) (d : Fin 64) : code1 (F := Ideal) z cb (ix3 b s d) = ((code c (x b s) d : ℝ) : EReal) :=
  nearest_code c x cb z hc hz b s d

theorem resid_apply (b : Fin 16) (s : Fin 512) (d : Fin 64) : resid (F := Ideal) z cb (ix3 b s d) = ((rest c (x b s) d : ℝ) : EReal) := by
  pointwise [resid]
  rw [hz, code1_apply c x cb z hc hz, ← EReal.coe_sub]
  rfl

theorem index2_apply (b : Fin 16) (s : Fin 512) : index2 (F := Ideal) z cb (ix2 b s) = BitVec.ofNat 32 (pick c (rest c (x b s))).val :=
  number_apply c (fun b s => rest c (x b s)) cb _ hc (resid_apply c x cb z hc hz) b s

theorem code2_apply (b : Fin 16) (s : Fin 512) (d : Fin 64) :
    code2 (F := Ideal) z cb (ix3 b s d) = ((code c (rest c (x b s)) d : ℝ) : EReal) :=
  nearest_code c (fun b s => rest c (x b s)) cb _ hc (resid_apply c x cb z hc hz) b s d

/-- The quantized row `(b, s)`: the two stages' codes. -/
theorem quantized_apply (b : Fin 16) (s : Fin 512) (d : Fin 64) :
    quantized (F := Ideal) z cb (ix3 b s d) = ((code c (x b s) d + code c (rest c (x b s)) d : ℝ) : EReal) := by
  pointwise [quantized, addCode]
  simp only [hz, code1_apply c x cb z hc hz, code2_apply c x cb z hc hz, resid_apply c x cb z hc hz, ← EReal.coe_sub, ← EReal.coe_add]
  congr 1
  ring

/-- The two numbers of row `(b, s)`. -/
theorem indices_apply (b : Fin 16) (s : Fin 512) (a : Fin 2) :
    indices (F := Ideal) z cb (ix3 b s a)
      = if a.val < 1 then BitVec.ofNat 32 (pick c (x b s)).val else BitVec.ofNat 32 (pick c (rest c (x b s))).val :=
  pairUp_apply _ _ b s _ _ (index1_apply c x cb z hc hz b s) (index2_apply c x cb z hc hz b s) a

/-- The loss: both stages' squared differences, with twice the weight of a mean. -/
theorem loss_apply (j : S_.Idx) :
    loss (F := Ideal) z cb j
      = ((2 / 524288 * (∑ b, ∑ s, sq (rest c (x b s))) + 2 / 524288 * (∑ b, ∑ s, sq (rest c (rest c (x b s)))) : ℝ) : EReal) := by
  unfold loss
  refine (addLoss_apply _ _ _ _ (resid_apply c x cb z hc hz) (code2_apply c x cb z hc hz) _ _
    (addLoss_apply _ _ _ _ hz (code1_apply c x cb z hc hz) zero 0 fun j => ?_) j).trans ?_
  · simp [zero, constant, Ideal.ofBits, Ideal.ieee]
  · rw [zero_add]
    rfl

end Results

end Cert.Proof.Ref

end
-- ==== Proof.Finite.lean ====
/- The precondition says, among other things, that every entry of the two arguments is finite; so they are arrays of reals. -/
module

public import proofs.«01_k».proof.Proof.RefMath
public import proofs.«01_k».proof.Proof.Gen.Pre_finite_no_tie
public import Idealize.ShloMosaic.Lib.ReduceAll

@[expose] public section

noncomputable section

namespace Cert.Proof

open Idealize.ShloMosaic
open Cert.Pre_finite_no_tie Cert.Pre_finite_no_tie.Gen

/-- The scalar shape has one index. -/
theorem scalar_subsingleton : Subsingleton S_.Idx := ⟨fun i j => funext fun a => a.elim0⟩

/-- An extended real whose absolute value is below `⊤` is a real. -/
theorem real_of_abs_lt (x : EReal) (h : max x (-x) < ⊤) : ∃ r : ℝ, x = (r : EReal) := by
  have h1 : x ≠ ⊤ := ((le_max_left _ _).trans_lt h).ne
  have h2 : x ≠ ⊥ := by
    rintro rfl
    simp at h
  exact ⟨x.toReal, (EReal.coe_toReal h1 h2).symm⟩

/-- Where "every absolute value is below `+∞`" holds, every entry is a real. -/
theorem real_of_all {s : Shape} {axes : List (Fin s.rank)} (x : FVec Ideal s .f32) (hb : S_.BroadcastsInDim s (![] : Fin 0 → Fin s.rank))
    (u : IVec S_ 1) (h : s.ReducesTo axes S_) (j : S_.Idx)
    (e : Host.reduce IntOp.andi (cmpf .olt (Host.absf x) (broadcastInDim s ![] hb (constant (F := Ideal) S_ .f32 0x7F800000#32))) u h h_S_ j = 1#1)
    (i : s.Idx) : ∃ r : ℝ, x i = (r : EReal) := by
  haveI := scalar_subsingleton
  have q := Host.reduce_andi_all _ _ _ _ _ e i
  refine real_of_abs_lt _ ?_
  have q' : Ideal.cmp .olt (max (x i) (-(x i))) (constant (F := Ideal) S_ .f32 0x7F800000#32 (ix0 : S_.Idx)) = 1#1 := by
    rw [← q]
    exact congrArg (Ideal.cmp .olt (max (x i) (-(x i)))) (congrArg (constant (F := Ideal) S_ .f32 0x7F800000#32) (Subsingleton.elim _ _))
  rw [inf_eq] at q'
  by_contra hn
  simp [Ideal.cmp, hn] at q'

/-- The last part of the precondition holds only where its third operand does. -/
theorem part3_one (a b : IVec S16x512 1) (c d : IVec S_ 1) (j : S_.Idx) (h : fn_part3 (F := Ideal) a b c d j = 1#1) : c j = 1#1 :=
  (IntOp.andi_eq_one.1 (IntOp.andi_eq_one.1 h).1).1

/-- The second part of the precondition holds only for real arguments. -/
theorem part2_one (z : FVec Ideal S16x512x64 .f32) (cb : FVec Ideal S8192x64 .f32) (a : IVec S16x512 1) (d : FVec Ideal S16x512x8192 .f32)
    (e : FVec Ideal S16x512 .f32) (j : S_.Idx) (h : fn_part2 (F := Ideal) z cb a d e j = 1#1) :
    (∀ i, ∃ r : ℝ, z i = (r : EReal)) ∧ ∀ i, ∃ r : ℝ, cb i = (r : EReal) := by
  have h' := IntOp.andi_eq_one.1 (part3_one _ _ _ _ _ h)
  exact ⟨real_of_all z _ _ _ _ h'.1, real_of_all cb _ _ _ _ h'.2⟩

/-- The precondition holds only for real arguments. -/
theorem real_of_pre (z : FVec Ideal S16x512x64 .f32) (cb : FVec Ideal S8192x64 .f32)
    (h : Cert.Pre_finite_no_tie.fn (F := Ideal) z cb = fun _ => 1#1) :
    (∀ i, ∃ r : ℝ, z i = (r : EReal)) ∧ ∀ i, ∃ r : ℝ, cb i = (r : EReal) :=
  part2_one z cb _ _ _ ix0 (congrFun h ix0)

end Cert.Proof

end
-- ==== Proof.Equation.lean ====
/- The kernel's three results and the reference's are the same arrays of reals, where the arguments are arrays of reals. -/
module

public import proofs.«01_k».proof.Proof.Finite

@[expose] public section

noncomputable section

namespace Cert.Proof

open Idealize.ShloMosaic
open Cert.KernelIdeal Cert.KernelIdeal.Gen

set_option maxRecDepth 16384

section Rows

variable {F : FTy → Type} [FloatOps F] (z : Vec F S16x512x64 .f32) (cb : Vec F S8192x64 .f32)

/-- The kernel's quantized row `(b, s)` is row `s` of batch `b`'s block. -/
theorem quantized_block (b : Fin 16) (s : Fin 512) (d : Fin 64) : Ker.quantized z cb (ValueIdx.ix3 b s d)
    = Ker.blockQ (Ker.batch z b) (k0_pay2 cb) (k0_pay3 cb) (k0_pay4 cb) (ValueIdx.ix2 s d) := by
  unfold Ker.quantized; rfl

/-- The kernel's numbers of batch `b` are those of the batch's block. -/
theorem indices_block (b : Fin 16) (a : Fin 2) (s : Fin 512) : Ker.indices z cb (ValueIdx.ix3 b a s)
    = Ker.blockI (Ker.batch z b) (k0_pay2 cb) (k0_pay3 cb) (k0_pay4 cb) (ValueIdx.ix3 (0 : Fin 1) a s) := by
  unfold Ker.indices; rfl

end Rows

section Results

variable (c : Book) (x : Fin 16 → Fin 512 → Fin 64 → ℝ) (z : FVec Ideal S16x512x64 .f32) (cb : FVec Ideal S8192x64 .f32)
  (hc : ∀ k d, cb (ix2 k d) = ((c k d : ℝ) : EReal)) (hz : ∀ b s d, z (ix3 b s d) = ((x b s d : ℝ) : EReal))

include hz in
/-- Row `s` of batch `b`. -/
theorem batch_apply (b : Fin 16) (s : Fin 512) (d : Fin 64) : Ker.batch (F := Ideal) z b (ix2 s d) = ((x b s d : ℝ) : EReal) := by
  refine Eq.trans ?_ (hz b s d)
  rw [ix3_eq_valueIdx]
  rfl

include hc hz

/-- The kernel's quantized row `(b, s)`: the two stages' codes. -/
theorem ker_quantized (b : Fin 16) (s : Fin 512) (d : Fin 64) :
    Ker.quantized (F := Ideal) z cb (ix3 b s d) = ((code c (x b s) d + code c (rest c (x b s)) d : ℝ) : EReal) := by
  rw [ix3_eq_valueIdx]
  refine (quantized_block (F := Ideal) z cb b s d).trans ?_
  rw [← ix2_eq_valueIdx]
  exact Ker.blockQ_apply c (x b) _ _ _ _ (batch_apply x z hz b) (Ker.pay2_apply c cb hc) (Ker.pay4_apply c cb hc)
    (Ker.pay3_hi c cb hc) (Ker.pay3_mid c cb hc) (Ker.pay3_lo c cb hc) s d

/-- The kernel's two numbers of row `(b, s)`. -/
theorem ker_indices (b : Fin 16) (s : Fin 512) (a : Fin 2) :
    Ker.indicesByRow (F := Ideal) z cb (ix3 b s a)
      = if a.val < 1 then BitVec.ofNat 32 (pick c (x b s)).val else BitVec.ofNat 32 (pick c (rest c (x b s))).val := by
  pointwise [Ker.indicesByRow]
  rw [ix3_eq_valueIdx]
  refine (indices_block (F := Ideal) z cb b a s).trans ?_
  rw [← ix3_eq_valueIdx]
  exact Ker.blockI_apply c (x b) _ _ _ _ (batch_apply x z hz b) (Ker.pay2_apply c cb hc) (Ker.pay4_apply c cb hc)
    (Ker.pay3_hi c cb hc) (Ker.pay3_mid c cb hc) (Ker.pay3_lo c cb hc) a s

/-- The running loss after `n` points: the squared distances of the batches so far. -/
theorem ker_lossAfter (n : ℕ) :
    Ker.lossAfter (F := Ideal) z cb n (ix2 0 0)
      = ((∑ t ∈ Finset.range n, ((∑ s, sq (rest c (x (Fin.ofNat 16 t) s))) + ∑ s, sq (rest c (rest c (x (Fin.ofNat 16 t) s)))) : ℝ) : EReal) := by
  induction n with
  | zero => pointwise [Ker.lossAfter, k0_pay5]; simp
  | succ n ih =>
    rw [Finset.sum_range_succ]
    exact Ker.blockL_apply c (x (Fin.ofNat 16 n)) _ _ _ _ (batch_apply x z hz _) (Ker.pay2_apply c cb hc) (Ker.pay4_apply c cb hc)
      (Ker.pay3_hi c cb hc) (Ker.pay3_mid c cb hc) (Ker.pay3_lo c cb hc) _ _ ih

/-- The kernel's loss: both stages' squared distances, with twice the weight of a mean. -/
theorem ker_loss (j : S_.Idx) :
    Ker.loss (F := Ideal) z cb j
      = ((2 / 524288 * (∑ b, ∑ s, sq (rest c (x b s))) + 2 / 524288 * (∑ b, ∑ s, sq (rest c (rest c (x b s)))) : ℝ) : EReal) := by
  pointwise [Ker.loss]
  rw [ker_lossAfter c x z cb hc hz, bits_twice_inv, ← EReal.coe_mul]
  congr 1
  rw [Finset.sum_range]
  have e : ∀ i : Fin 16, Fin.ofNat 16 i.val = i := fun i => Fin.ext (Nat.mod_eq_of_lt i.isLt)
  simp only [e]
  rw [Finset.sum_add_distrib]
  ring

end Results

/-- Over arrays of reals, the kernel and the reference have the same three results. -/
theorem results_eq (z : FVec Ideal S16x512x64 .f32) (cb : FVec Ideal S8192x64 .f32)
    (hz : ∀ i, ∃ r : ℝ, z i = (r : EReal)) (hc : ∀ i, ∃ r : ℝ, cb i = (r : EReal)) :
    Ref.quantized (F := Ideal) z cb = Ker.quantized (F := Ideal) z cb
    ∧ Ref.indices (F := Ideal) z cb = Ker.indicesByRow (F := Ideal) z cb
    ∧ Ref.loss (F := Ideal) z cb = Ker.loss (F := Ideal) z cb := by
  choose x hx using hz
  choose c hc using hc
  have hz' : ∀ b s d, z (ix3 b s d) = ((x (ix3 b s d) : ℝ) : EReal) := fun b s d => hx _
  have hc' : ∀ k d, cb (ix2 k d) = ((c (ix2 k d) : ℝ) : EReal) := fun k d => hc _
  refine ⟨funext fun i => ?_, funext fun i => ?_, funext fun i => ?_⟩
  · rw [eq_ix3 i]
    exact (Ref.quantized_apply (fun k d => c (ix2 k d)) (fun b s d => x (ix3 b s d)) cb z hc' hz' _ _ _).trans
      (ker_quantized (fun k d => c (ix2 k d)) (fun b s d => x (ix3 b s d)) z cb hc' hz' _ _ _).symm
  · rw [eq_ix3 i]
    exact (Ref.indices_apply (fun k d => c (ix2 k d)) (fun b s d => x (ix3 b s d)) cb z hc' hz' _ _ _).trans
      (ker_indices (fun k d => c (ix2 k d)) (fun b s d => x (ix3 b s d)) z cb hc' hz' _ _ _).symm
  · exact (Ref.loss_apply (fun k d => c (ix2 k d)) (fun b s d => x (ix3 b s d)) cb z hc' hz' i).trans
      (ker_loss (fun k d => c (ix2 k d)) (fun b s d => x (ix3 b s d)) z cb hc' hz' i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_no_tie
public import proofs.«01_k».proof.Proof.Equation
public import Idealize.ShloMosaic.Adequacy
public import Idealize.ShloMosaic.Init

@[expose] public section

noncomputable section

namespace Cert.Proof

open Idealize.ShloMosaic Idealize.SL.Sem

/-- From memories that agree on the two arguments, and where these are finite, the kernel and the reference both run and end
with equal results: the quantized array, the two numbers of every row, the loss. -/
theorem algebraic : Cert.algebraic_KernelIdeal_ReferenceIdeal := by
  intro m ρ m' ρ' hpre hargs
  refine ⟨fun c => Ker.quantized (Ker.argZ m c) (Ker.argC m c), fun c => Ker.indicesByRow (Ker.argZ m c) (Ker.argC m c),
    fun c => Ker.loss (Ker.argZ m c) (Ker.argC m c), Ker.run (F := Ideal) m ρ, ?_⟩
  refine (θ_run _ _ _).mono (fun r h c => ?_) (Ref.run (F := Ideal) m' ρ')
  obtain ⟨hz, hc⟩ := real_of_pre _ _ (hpre c)
  obtain ⟨e0, e1, e2⟩ := results_eq _ _ hz hc
  obtain ⟨h0, h1, h2, h3, h4⟩ := h c
  obtain ⟨a0, a1⟩ := hargs c
  rw [a0, a1] at h0 h1 h2
  exact ⟨h0.trans e0, h1.trans e1, h2.trans e2, h3, h4⟩

/-- Everything claimed. -/
theorem claim : Cert.Claim := ⟨Cert.Kernel.Gen.facts, Cert.KernelIdeal.Gen.facts, Cert.ReferenceIdeal.Gen.facts, Cert.Pre_finite_no_tie.Gen.facts,
  fun m ρ _ => Cert.Kernel.Gen.frame m ρ,
  fun m ρ _ => Cert.Kernel.Gen.frame m ρ,
  fun m ρ _ => Cert.KernelIdeal.Gen.frame m ρ,
  fun m ρ _ => Ref.frame m ρ,
  fun m ρ _ => Ref.frame m ρ,
  trivial,
  algebraic⟩

end Cert.Proof

end
